-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame_KernelIdeal [hPre_tame_KernelIdeal : Cert.Pre_tame_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_tame_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame_ReferenceIdeal [hPre_tame_ReferenceIdeal : Cert.Pre_tame_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_tame_KernelIdeal [hKernelIdeal : Cert.KernelIdeal.Facts] [hPre_tame_KernelIdeal : Cert.Pre_tame_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_tame_ReferenceIdeal [hReferenceIdeal : Cert.ReferenceIdeal.Facts] [hPre_tame_ReferenceIdeal : Cert.Pre_tame_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_tame_KernelIdeal [hKernelIdeal : Cert.KernelIdeal.Facts] [hReferenceIdeal : Cert.ReferenceIdeal.Facts] [hPre_tame_KernelIdeal : Cert.Pre_tame_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame_KernelIdeal m →
    (∀ c : Dev Cert.KernelIdeal.nD,
      m ((c.tc : Thread Cert.KernelIdeal.nD Cert.KernelIdeal.τ).loc Cert.KernelIdeal.main_arg0) = Layout.block ⟨3, ![2, 256, 512]⟩ ⟨3, ![2, 1024, 512]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 256, 4, 64]⟩ ⟨4, ![2, 1024, 4, 64]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 4, 64]⟩ ⟨4, ![2, 1024, 4, 64]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = Layout.block ⟨3, ![2, 256, 512]⟩ ⟨3, ![2, 1024, 512]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v45) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_tame_KernelIdeal : Cert.Pre_tame_KernelIdeal.Facts) (hPre_tame_ReferenceIdeal : Cert.Pre_tame_ReferenceIdeal.Facts),
    quiescent_Kernel (hKernel := hKernel)
    ∧ quiescent_KernelIdeal (hKernelIdeal := hKernelIdeal)
    ∧ quiescent_KernelIdeal_pre_tame_KernelIdeal (hKernelIdeal := hKernelIdeal) (hPre_tame_KernelIdeal := hPre_tame_KernelIdeal)
    ∧ quiescent_ReferenceIdeal (hReferenceIdeal := hReferenceIdeal)
    ∧ quiescent_ReferenceIdeal_pre_tame_ReferenceIdeal (hReferenceIdeal := hReferenceIdeal) (hPre_tame_ReferenceIdeal := hPre_tame_ReferenceIdeal)
    ∧ preserves_Kernel_KernelIdeal
    ∧ algebraic_KernelIdeal_ReferenceIdeal_pre_tame_KernelIdeal (hKernelIdeal := hKernelIdeal) (hReferenceIdeal := hReferenceIdeal) (hPre_tame_KernelIdeal := hPre_tame_KernelIdeal)
-- ==== Pre_tame_KernelIdeal.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_

variable [Facts]

def fn {F : FTy → Type} [FloatOps F] (main_arg0 : FVec F S2x256x512 .f32) (main_arg1 : FVec F S512x256 .f32) (main_arg2 : FVec F S2x256x4x64 .f32) (main_arg3 : FVec F S2x256x4x64 .f32) (main_arg4 : FVec F S256x512 .f32) : IVec S_ 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  main_v8
-- ==== Pre_tame_ReferenceIdeal.lean ====
abbrev S2x1024x512 : Shape := ⟨3, ![2, 1024, 512]⟩
abbrev S512x256 : Shape := ⟨2, ![512, 256]⟩
abbrev S2x1024x4x64 : Shape := ⟨4, ![2, 1024, 4, 64]⟩
abbrev S256x512 : Shape := ⟨2, ![256, 512]⟩
abbrev S_ : Shape := ⟨0, ![]⟩

class Facts : Prop where
  bcast_S_S2x1024x512 : S_.BroadcastsInDim S2x1024x512 (![] : Fin 0 → Fin S2x1024x512.rank)
  reducesTo_S2x1024x512_S_d0_1_2 : S2x1024x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_

variable [Facts]

def fn {F : FTy → Type} [FloatOps F] (main_arg0 : FVec F S2x1024x512 .f32) (main_arg1 : FVec F S512x256 .f32) (main_arg2 : FVec F S2x1024x4x64 .f32) (main_arg3 : FVec F S2x1024x4x64 .f32) (main_arg4 : FVec F S256x512 .f32) : IVec S_ 1 :=
  let main_v0 : FVec F S2x1024x512 .f32 := Host.absf main_arg0
  let main_cst : FVec F S_ .f32 := constant S_ .f32 0x7F800000#32
  let main_v1 : FVec F S2x1024x512 .f32 := broadcastInDim S2x1024x512 ![] bcast_S_S2x1024x512 main_cst
  let main_v2 : IVec S2x1024x512 1 := cmpf .olt main_v0 main_v1
  let main_c : IVec S_ 1 := constantI S_ 1 1#1
  let main_v3 : IVec S_ 1 := (fun x v => Host.reduce IntOp.andi x v reducesTo_S2x1024x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  main_v8
-- ==== Kernel.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S_ : Shape := ⟨0, ![]⟩
abbrev S2x4x64x256 : Shape := ⟨4, ![2, 4, 64, 256]⟩
abbrev S4x2x4x64x256 : Shape := ⟨5, ![4, 2, 4, 64, 256]⟩
abbrev S4 : Shape := ⟨1, ![4]⟩
abbrev S1 : Shape := ⟨1, ![1]⟩
abbrev S1x2x4x64x256 : Shape := ⟨5, ![1, 2, 4, 64, 256]⟩
abbrev S1x256x512 : Shape := ⟨3, ![1, 256, 512]⟩
abbrev S256x256 : Shape := ⟨2, ![256, 256]⟩
abbrev S256x64 : Shape := ⟨2, ![256, 64]⟩
abbrev S1x1x64x256 : Shape := ⟨4, ![1, 1, 64, 256]⟩
abbrev S64x256 : Shape := ⟨2, ![64, 256]⟩
abbrev S64x64 : Shape := ⟨2, ![64, 64]⟩
abbrev S64 : Shape := ⟨1, ![64]⟩
abbrev S64x1 : Shape := ⟨2, ![64, 1]⟩
abbrev S64x128 : Shape := ⟨2, ![64, 128]⟩
abbrev S64x192 : Shape := ⟨2, ![64, 192]⟩
abbrev S256x1 : Shape := ⟨2, ![256, 1]⟩
abbrev S1x1x1x64x256 : Shape := ⟨5, ![1, 1, 1, 64, 256]⟩
abbrev S256 : Shape := ⟨1, ![256]⟩

abbrev nBuf : Space → Nat
  | .hbm => 38
  | .vmem => 8
  | .smem => 0
  | _ => 0

abbrev bufTy : (tb : Table) → Fin (tcTables nBuf tb) → BufTy
  | .hbm, ⟨0, _⟩ => ⟨S2x256x512, .f32⟩
  | .hbm, ⟨1, _⟩ => ⟨S512x256, .f32⟩
  | .hbm, ⟨2, _⟩ => ⟨S2x256x4x64, .f32⟩
  | .hbm, ⟨3, _⟩ => ⟨S2x256x4x64, .f32⟩
  | .hbm, ⟨4, _⟩ => ⟨S256x512, .f32⟩
  | .hbm, ⟨5, _⟩ => ⟨S512x256, .bf16⟩
  | .hbm, ⟨6, _⟩ => ⟨S256x512, .bf16⟩
  | .hbm, ⟨7, _⟩ => ⟨S_, .f32⟩
  | .hbm, ⟨8, _⟩ => ⟨S2x256x4x64, .f32⟩
  | .hbm, ⟨9, _⟩ => ⟨S2x256x4x64, .f32⟩
  | .hbm, ⟨10, _⟩ => ⟨S2x256x4x64, .f32⟩
  | .hbm, ⟨11, _⟩ => ⟨S_, .i32⟩
  | .hbm, ⟨12, _⟩ => ⟨S_, .i32⟩
  | .hbm, ⟨13, _⟩ => ⟨S_, .f32⟩
  | .hbm, ⟨14, _⟩ => ⟨S2x256x4x64, .f32⟩
  | .hbm, ⟨15, _⟩ => ⟨S2x256x4x64, .f32⟩
  | .hbm, ⟨16, _⟩ => ⟨S_, .f32⟩
  | .hbm, ⟨17, _⟩ => ⟨S2x256x4x64, .f32⟩
  | .hbm, ⟨18, _⟩ => ⟨S2x256x4x64, .f32⟩
  | .hbm, ⟨19, _⟩ => ⟨S2x256x4x64, .i32⟩
  | .hbm, ⟨20, _⟩ => ⟨S2x256x4x64, .i8⟩
  | .hbm, ⟨21, _⟩ => ⟨S2x4x64x256, .i8⟩
  | .hbm, ⟨22, _⟩ => ⟨S_, .f32⟩
  | .hbm, ⟨23, _⟩ => ⟨S2x256x4x64, .f32⟩
  | .hbm, ⟨24, _⟩ => ⟨S2x256x4x64, .f32⟩
  | .hbm, ⟨25, _⟩ => ⟨S2x256x4x64, .f32⟩
  | .hbm, ⟨26, _⟩ => ⟨S_, .i32⟩
  | .hbm, ⟨27, _⟩ => ⟨S_, .i32⟩
  | .hbm, ⟨28, _⟩ => ⟨S_, .f32⟩
  | .hbm, ⟨29, _⟩ => ⟨S2x256x4x64, .f32⟩
  | .hbm, ⟨30, _⟩ => ⟨S2x256x4x64, .f32⟩
  | .hbm, ⟨31, _⟩ => ⟨S_, .f32⟩
  | .hbm, ⟨32, _⟩ => ⟨S2x256x4x64, .f32⟩
  | .hbm, ⟨33, _⟩ => ⟨S2x256x4x64, .f32⟩
  | .hbm, ⟨34, _⟩ => ⟨S2x256x4x64, .i32⟩
  | .hbm, ⟨35, _⟩ => ⟨S2x256x4x64, .i8⟩
  | .hbm, ⟨36, _⟩ => ⟨S2x4x64x256, .i8⟩
  | .hbm, ⟨37, _⟩ => ⟨S2x256x512, .f32⟩
  | .local _ .vmem, ⟨0, _⟩ => ⟨S2x256x512, .f32⟩
  | .local _ .vmem, ⟨1, _⟩ => ⟨S512x256, .bf16⟩
  | .local _ .vmem, ⟨2, _⟩ => ⟨S2x4x64x256, .i8⟩
  | .local _ .vmem, ⟨3, _⟩ => ⟨S2x4x64x256, .i8⟩
  | .local _ .vmem, ⟨4, _⟩ => ⟨S256x512, .bf16⟩
  | .local _ .vmem, ⟨5, _⟩ => ⟨S2x256x512, .f32⟩
  | .local _ .vmem, ⟨6, _⟩ => ⟨S4x2x4x64x256, .i8⟩
  | .local _ .vmem, ⟨7, _⟩ => ⟨S4x2x4x64x256, .i8⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_c_0 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_c_3 : Ref sig .tc := ⟨.hbm, 27, rfl⟩
abbrev main_call3_v0 : Ref sig .tc := ⟨.hbm, 28, rfl⟩
abbrev main_call3_v1 : Ref sig .tc := ⟨.hbm, 29, rfl⟩
abbrev main_call3_v2 : Ref sig .tc := ⟨.hbm, 30, rfl⟩
abbrev main_call3_v3 : Ref sig .tc := ⟨.hbm, 31, rfl⟩
abbrev main_call3_v4 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_597 : BitVec 32 := 0#32
  let c0_i32_595 : BitVec 32 := 0#32
  let c1_i32_596 : BitVec 32 := 1#32
  let v945 : BitVec 32 := Scalar.muli c0_i32_595 c1_i32_596
  let v946 : BitVec 32 := Scalar.addi c0_i32_597 v945
  v946.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_597 : BitVec 32 := 0#32
  let c1_i32_595 : BitVec 32 := 1#32
  let c1_i32_596 : BitVec 32 := 1#32
  let v945 : BitVec 32 := Scalar.muli c1_i32_595 c1_i32_596
  let v946 : BitVec 32 := Scalar.addi c0_i32_597 v945
  v946.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_597 : BitVec 32 := 0#32
  let c2_i32_595 : BitVec 32 := 2#32
  let c1_i32_596 : BitVec 32 := 1#32
  let v945 : BitVec 32 := Scalar.muli c2_i32_595 c1_i32_596
  let v946 : BitVec 32 := Scalar.addi c0_i32_597 v945
  v946.toNat
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_597 : BitVec 32 := 0#32
  let c3_i32_595 : BitVec 32 := 3#32
  let c1_i32_596 : BitVec 32 := 1#32
  let v945 : BitVec 32 := Scalar.muli c3_i32_595 c1_i32_596
  let v946 : BitVec 32 := Scalar.addi c0_i32_597 v945
  v946.toNat
def k0_cond5 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v16 : BitVec 1 := Scalar.cmpi .eq v2 c0_i32_6
  let v17 : BitVec 32 := Scalar.extui v16
  let c0_i32_7 : BitVec 32 := 0#32
  let v18 : BitVec 1 := Scalar.cmpi .ne v17 c0_i32_7
  v18

def k0_dev5 : Nat :=
  let c0_i32_599 : BitVec 32 := 0#32
  let c3_i32_597 : BitVec 32 := 3#32
  let c1_i32_598 : BitVec 32 := 1#32
  let v945 : BitVec 32 := Scalar.muli c3_i32_597 c1_i32_598
  let v946 : BitVec 32 := Scalar.addi c0_i32_599 v945
  v946.toNat
def k0_dev6 : Nat :=
  let c0_i32_609 : BitVec 32 := 0#32
  let c3_i32_607 : BitVec 32 := 3#32
  let c1_i32_608 : BitVec 32 := 1#32
  let v953 : BitVec 32 := Scalar.muli c3_i32_607 c1_i32_608
  let v954 : BitVec 32 := Scalar.addi c0_i32_609 v953
  v954.toNat
def k0_cond6 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_8 : BitVec 32 := 0#32
  let v19 : BitVec 1 := Scalar.cmpi .eq v2 c0_i32_8
  let v20 : BitVec 32 := Scalar.extui v19
  let c0_i32_9 : BitVec 32 := 0#32
  let v21 : BitVec 1 := Scalar.cmpi .ne v20 c0_i32_9
  v21

def k0_dev7 : Nat :=
  let c0_i32_599 : BitVec 32 := 0#32
  let c2_i32_597 : BitVec 32 := 2#32
  let c1_i32_598 : BitVec 32 := 1#32
  let v945 : BitVec 32 := Scalar.muli c2_i32_597 c1_i32_598
  let v946 : BitVec 32 := Scalar.addi c0_i32_599 v945
  v946.toNat
def k0_dev8 : Nat :=
  let c0_i32_609 : BitVec 32 := 0#32
  let c2_i32_607 : BitVec 32 := 2#32
  let c1_i32_608 : BitVec 32 := 1#32
  let v953 : BitVec 32 := Scalar.muli c2_i32_607 c1_i32_608
  let v954 : BitVec 32 := Scalar.addi c0_i32_609 v953
  v954.toNat
def k0_cond7 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_10 : BitVec 32 := 0#32
  let v22 : BitVec 1 := Scalar.cmpi .eq v2 c0_i32_10
  let v23 : BitVec 32 := Scalar.extui v22
  let c0_i32_11 : BitVec 32 := 0#32
  let v24 : BitVec 1 := Scalar.cmpi .ne v23 c0_i32_11
  v24

def k0_dev9 : Nat :=
  let c0_i32_599 : BitVec 32 := 0#32
  let c1_i32_597 : BitVec 32 := 1#32
  let c1_i32_598 : BitVec 32 := 1#32
  let v945 : BitVec 32 := Scalar.muli c1_i32_597 c1_i32_598
  let v946 : BitVec 32 := Scalar.addi c0_i32_599 v945
  v946.toNat
def k0_dev10 : Nat :=
  let c0_i32_609 : BitVec 32 := 0#32
  let c1_i32_607 : BitVec 32 := 1#32
  let c1_i32_608 : BitVec 32 := 1#32
  let v953 : BitVec 32 := Scalar.muli c1_i32_607 c1_i32_608
  let v954 : BitVec 32 := Scalar.addi c0_i32_609 v953
  v954.toNat
def k0_cond8 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_12 : BitVec 32 := 1#32
  let v25 : BitVec 1 := Scalar.cmpi .eq v2 c1_i32_12
  let v26 : BitVec 32 := Scalar.extui v25
  let c0_i32_13 : BitVec 32 := 0#32
  let v27 : BitVec 1 := Scalar.cmpi .ne v26 c0_i32_13
  v27

def k0_dev11 : Nat :=
  let c0_i32_599 : BitVec 32 := 0#32
  let c3_i32_597 : BitVec 32 := 3#32
  let c1_i32_598 : BitVec 32 := 1#32
  let v945 : BitVec 32 := Scalar.muli c3_i32_597 c1_i32_598
  let v946 : BitVec 32 := Scalar.addi c0_i32_599 v945
  v946.toNat
def k0_dev12 : Nat :=
  let c0_i32_609 : BitVec 32 := 0#32
  let c3_i32_607 : BitVec 32 := 3#32
  let c1_i32_608 : BitVec 32 := 1#32
  let v953 : BitVec 32 := Scalar.muli c3_i32_607 c1_i32_608
  let v954 : BitVec 32 := Scalar.addi c0_i32_609 v953
  v954.toNat
def k0_cond9 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_14 : BitVec 32 := 1#32
  let v28 : BitVec 1 := Scalar.cmpi .eq v2 c1_i32_14
  let v29 : BitVec 32 := Scalar.extui v28
  let c0_i32_15 : BitVec 32 := 0#32
  let v30 : BitVec 1 := Scalar.cmpi .ne v29 c0_i32_15
  v30

def k0_dev13 : Nat :=
  let c0_i32_599 : BitVec 32 := 0#32
  let c2_i32_597 : BitVec 32 := 2#32
  let c1_i32_598 : BitVec 32 := 1#32
  let v945 : BitVec 32 := Scalar.muli c2_i32_597 c1_i32_598
  let v946 : BitVec 32 := Scalar.addi c0_i32_599 v945
  v946.toNat
def k0_dev14 : Nat :=
  let c0_i32_609 : BitVec 32 := 0#32
  let c2_i32_607 : BitVec 32 := 2#32
  let c1_i32_608 : BitVec 32 := 1#32
  let v953 : BitVec 32 := Scalar.muli c2_i32_607 c1_i32_608
  let v954 : BitVec 32 := Scalar.addi c0_i32_609 v953
  v954.toNat
def k0_cond10 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_16 : BitVec 32 := 2#32
  let v31 : BitVec 1 := Scalar.cmpi .eq v2 c2_i32_16
  let v32 : BitVec 32 := Scalar.extui v31
  let c0_i32_17 : BitVec 32 := 0#32
  let v33 : BitVec 1 := Scalar.cmpi .ne v32 c0_i32_17
  v33

def k0_dev15 : Nat :=
  let c0_i32_599 : BitVec 32 := 0#32
  let c3_i32_597 : BitVec 32 := 3#32
  let c1_i32_598 : BitVec 32 := 1#32
  let v945 : BitVec 32 := Scalar.muli c3_i32_597 c1_i32_598
  let v946 : BitVec 32 := Scalar.addi c0_i32_599 v945
  v946.toNat
def k0_dev16 : Nat :=
  let c0_i32_609 : BitVec 32 := 0#32
  let c3_i32_607 : BitVec 32 := 3#32
  let c1_i32_608 : BitVec 32 := 1#32
  let v953 : BitVec 32 := Scalar.muli c3_i32_607 c1_i32_608
  let v954 : BitVec 32 := Scalar.addi c0_i32_609 v953
  v954.toNat
abbrev stage0_0 : Fin 1 → Memref sig .tc .vmem S2x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x4x64x256 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x4x64x256 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x1024x512 : Shape := ⟨3, ![2, 1024, 512]⟩
abbrev S512x256 : Shape := ⟨2, ![512, 256]⟩
abbrev S2x1024x4x64 : Shape := ⟨4, ![2, 1024, 4, 64]⟩
abbrev S256x512 : Shape := ⟨2, ![256, 512]⟩
abbrev S_ : Shape := ⟨0, ![]⟩
abbrev S2x1024x256 : Shape := ⟨3, ![2, 1024, 256]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S2x4x1024x1024 : Shape := ⟨4, ![2, 4, 1024, 1024]⟩
abbrev S1x1x1024x1024 : Shape := ⟨4, ![1, 1, 1024, 1024]⟩
abbrev S2x4x1024 : Shape := ⟨3, ![2, 4, 1024]⟩
abbrev S2x4x1024x1 : Shape := ⟨4, ![2, 4, 1024, 1]⟩
abbrev S1x1x1024x1 : Shape := ⟨4, ![1, 1, 1024, 1]⟩
abbrev S2x4x64x1024 : Shape := ⟨4, ![2, 4, 64, 1024]⟩

abbrev nBuf : Space → Nat
  | .hbm => 119
  | .vmem => 0
  | .smem => 0
  | _ => 0

abbrev bufTy : (tb : Table) → Fin (tcTables nBuf tb) → BufTy
  | .hbm, ⟨0, _⟩ => ⟨S2x1024x512, .f32⟩
  | .hbm, ⟨1, _⟩ => ⟨S512x256, .f32⟩
  | .hbm, ⟨2, _⟩ => ⟨S2x1024x4x64, .f32⟩
  | .hbm, ⟨3, _⟩ => ⟨S2x1024x4x64, .f32⟩
  | .hbm, ⟨4, _⟩ => ⟨S256x512, .f32⟩
  | .hbm, ⟨5, _⟩ => ⟨S_, .f32⟩
  | .hbm, ⟨6, _⟩ => ⟨S2x1024x4x64, .f32⟩
  | .hbm, ⟨7, _⟩ => ⟨S2x1024x4x64, .f32⟩
  | .hbm, ⟨8, _⟩ => ⟨S2x1024x4x64, .f32⟩
  | .hbm, ⟨9, _⟩ => ⟨S_, .i32⟩
  | .hbm, ⟨10, _⟩ => ⟨S_, .i32⟩
  | .hbm, ⟨11, _⟩ => ⟨S_, .f32⟩
  | .hbm, ⟨12, _⟩ => ⟨S2x1024x4x64, .f32⟩
  | .hbm, ⟨13, _⟩ => ⟨S2x1024x4x64, .f32⟩
  | .hbm, ⟨14, _⟩ => ⟨S_, .f32⟩
  | .hbm, ⟨15, _⟩ => ⟨S2x1024x4x64, .f32⟩
  | .hbm, ⟨16, _⟩ => ⟨S2x1024x4x64, .f32⟩
  | .hbm, ⟨17, _⟩ => ⟨S_, .f32⟩
  | .hbm, ⟨18, _⟩ => ⟨S2x1024x4x64, .f32⟩
  | .hbm, ⟨19, _⟩ => ⟨S2x1024x4x64, .f32⟩
  | .hbm, ⟨20, _⟩ => ⟨S_, .f32⟩
  | .hbm, ⟨21, _⟩ => ⟨S2x1024x4x64, .f32⟩
  | .hbm, ⟨22, _⟩ => ⟨S2x1024x4x64, .f32⟩
  | .hbm, ⟨23, _⟩ => ⟨S2x1024x4x64, .f32⟩
  | .hbm, ⟨24, _⟩ => ⟨S_, .i32⟩
  | .hbm, ⟨25, _⟩ => ⟨S_, .i32⟩
  | .hbm, ⟨26, _⟩ => ⟨S_, .f32⟩
  | .hbm, ⟨27, _⟩ => ⟨S2x1024x4x64, .f32⟩
  | .hbm, ⟨28, _⟩ => ⟨S2x1024x4x64, .f32⟩
  | .hbm, ⟨29, _⟩ => ⟨S_, .f32⟩
  | .hbm, ⟨30, _⟩ => ⟨S2x1024x4x64, .f32⟩
  | .hbm, ⟨31, _⟩ => ⟨S2x1024x4x64, .f32⟩
  | .hbm, ⟨32, _⟩ => ⟨S_, .f32⟩
  | .hbm, ⟨33, _⟩ => ⟨S2x1024x4x64, .f32⟩
  | .hbm, ⟨34, _⟩ => ⟨S2x1024x4x64, .f32⟩
  | .hbm, ⟨35, _⟩ => ⟨S2x1024x256, .f32⟩
  | .hbm, ⟨36, _⟩ => ⟨S2x1024x4x64, .f32⟩
  | .hbm, ⟨37, _⟩ => ⟨S1024, .i32⟩
  | .hbm, ⟨38, _⟩ => ⟨S_, .i32⟩
  | .hbm, ⟨39, _⟩ => ⟨S_, .i32⟩
  | .hbm, ⟨40, _⟩ => ⟨S1024, .i32⟩
  | .hbm, ⟨41, _⟩ => ⟨S1024, .i32⟩
  | .hbm, ⟨42, _⟩ => ⟨S1024, .i32⟩
  | .hbm, ⟨43, _⟩ => ⟨S_, .i32⟩
  | .hbm, ⟨44, _⟩ => ⟨S1024, .i32⟩
  | .hbm, ⟨45, _⟩ => ⟨S1024, .i1⟩
  | .hbm, ⟨46, _⟩ => ⟨S1024, .i32⟩
  | .hbm, ⟨47, _⟩ => ⟨S1024, .i32⟩
  | .hbm, ⟨48, _⟩ => ⟨S_, .i32⟩
  | .hbm, ⟨49, _⟩ => ⟨S1024, .i32⟩
  | .hbm, ⟨50, _⟩ => ⟨S1024, .i1⟩
  | .hbm, ⟨51, _⟩ => ⟨S1024, .i1⟩
  | .hbm, ⟨52, _⟩ => ⟨S_, .i32⟩
  | .hbm, ⟨53, _⟩ => ⟨S1024, .i32⟩
  | .hbm, ⟨54, _⟩ => ⟨S1024, .i32⟩
  | .hbm, ⟨55, _⟩ => ⟨S1024, .i32⟩
  | .hbm, ⟨56, _⟩ => ⟨S1024x1, .i32⟩
  | .hbm, ⟨57, _⟩ => ⟨S1024, .i32⟩
  | .hbm, ⟨58, _⟩ => ⟨S_, .i32⟩
  | .hbm, ⟨59, _⟩ => ⟨S_, .i32⟩
  | .hbm, ⟨60, _⟩ => ⟨S1024, .i32⟩
  | .hbm, ⟨61, _⟩ => ⟨S1024, .i32⟩
  | .hbm, ⟨62, _⟩ => ⟨S1024, .i32⟩
  | .hbm, ⟨63, _⟩ => ⟨S_, .i32⟩
  | .hbm, ⟨64, _⟩ => ⟨S1024, .i32⟩
  | .hbm, ⟨65, _⟩ => ⟨S1024, .i1⟩
  | .hbm, ⟨66, _⟩ => ⟨S1024, .i32⟩
  | .hbm, ⟨67, _⟩ => ⟨S1024, .i32⟩
  | .hbm, ⟨68, _⟩ => ⟨S_, .i32⟩
  | .hbm, ⟨69, _⟩ => ⟨S1024, .i32⟩
  | .hbm, ⟨70, _⟩ => ⟨S1024, .i1⟩
  | .hbm, ⟨71, _⟩ => ⟨S1024, .i1⟩
  | .hbm, ⟨72, _⟩ => ⟨S_, .i32⟩
  | .hbm, ⟨73, _⟩ => ⟨S1024, .i32⟩
  | .hbm, ⟨74, _⟩ => ⟨S1024, .i32⟩
  | .hbm, ⟨75, _⟩ => ⟨S1024, .i32⟩
  | .hbm, ⟨76, _⟩ => ⟨S1x1024, .i32⟩
  | .hbm, ⟨77, _⟩ => ⟨S1024x1024, .i32⟩
  | .hbm, ⟨78, _⟩ => ⟨S1024x1024, .i32⟩
  | .hbm, ⟨79, _⟩ => ⟨S1024x1024, .i1⟩
  | .hbm, ⟨80, _⟩ => ⟨S2x4x1024x1024, .f32⟩
  | .hbm, ⟨81, _⟩ => ⟨S_, .f32⟩
  | .hbm, ⟨82, _⟩ => ⟨S2x4x1024x1024, .f32⟩
  | .hbm, ⟨83, _⟩ => ⟨S2x4x1024x1024, .f32⟩
  | .hbm, ⟨84, _⟩ => ⟨S1x1x1024x1024, .i1⟩
  | .hbm, ⟨85, _⟩ => ⟨S_, .f32⟩
  | .hbm, ⟨86, _⟩ => ⟨S_, .f32⟩
  | .hbm, ⟨87, _⟩ => ⟨S2x4x1024x1024, .i1⟩
  | .hbm, ⟨88, _⟩ => ⟨S2x4x1024x1024, .f32⟩
  | .hbm, ⟨89, _⟩ => ⟨S2x4x1024x1024, .f32⟩
  | .hbm, ⟨90, _⟩ => ⟨S_, .f32⟩
  | .hbm, ⟨91, _⟩ => ⟨S2x4x1024, .f32⟩
  | .hbm, ⟨92, _⟩ => ⟨S2x4x1024x1, .f32⟩
  | .hbm, ⟨93, _⟩ => ⟨S2x4x1024x1024, .f32⟩
  | .hbm, ⟨94, _⟩ => ⟨S2x4x1024x1024, .f32⟩
  | .hbm, ⟨95, _⟩ => ⟨S2x4x1024x1024, .f32⟩
  | .hbm, ⟨96, _⟩ => ⟨S_, .i1⟩
  | .hbm, ⟨97, _⟩ => ⟨S1024, .i1⟩
  | .hbm, ⟨98, _⟩ => ⟨S1x1x1024x1, .i1⟩
  | .hbm, ⟨99, _⟩ => ⟨S_, .f32⟩
  | .hbm, ⟨100, _⟩ => ⟨S2x4x1024, .f32⟩
  | .hbm, ⟨101, _⟩ => ⟨S2x4x1024x1, .f32⟩
  | .hbm, ⟨102, _⟩ => ⟨S_, .f32⟩
  | .hbm, ⟨103, _⟩ => ⟨S_, .f32⟩
  | .hbm, ⟨104, _⟩ => ⟨S2x4x1024x1, .i1⟩
  | .hbm, ⟨105, _⟩ => ⟨S2x4x1024x1, .f32⟩
  | .hbm, ⟨106, _⟩ => ⟨S2x4x1024x1, .f32⟩
  | .hbm, ⟨107, _⟩ => ⟨S2x4x1024x1024, .f32⟩
  | .hbm, ⟨108, _⟩ => ⟨S2x4x1024x1024, .f32⟩
  | .hbm, ⟨109, _⟩ => ⟨S1x1x1024x1, .i1⟩
  | .hbm, ⟨110, _⟩ => ⟨S_, .f32⟩
  | .hbm, ⟨111, _⟩ => ⟨S_, .f32⟩
  | .hbm, ⟨112, _⟩ => ⟨S2x4x1024x1024, .i1⟩
  | .hbm, ⟨113, _⟩ => ⟨S2x4x1024x1024, .f32⟩
  | .hbm, ⟨114, _⟩ => ⟨S2x4x1024x1024, .f32⟩
  | .hbm, ⟨115, _⟩ => ⟨S2x4x64x1024, .f32⟩
  | .hbm, ⟨116, _⟩ => ⟨S2x1024x4x64, .f32⟩
  | .hbm, ⟨117, _⟩ => ⟨S2x1024x256, .f32⟩
  | .hbm, ⟨118, _⟩ => ⟨S2x1024x512, .f32⟩
  | _, _ => ⟨S2x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_c_0 : Ref sig .tc := ⟨.hbm, 10, rfl⟩
abbrev main_call1_v0 : Ref sig .tc := ⟨.hbm, 11, rfl⟩
abbrev main_call1_v1 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c_3 : Ref sig .tc := ⟨.hbm, 24, rfl⟩
abbrev main_c_4 : Ref sig .tc := ⟨.hbm, 25, rfl⟩
abbrev main_call3_v0 : Ref sig .tc := ⟨.hbm, 26, rfl⟩
abbrev main_call3_v1 : Ref sig .tc := ⟨.hbm, 27, rfl⟩
abbrev main_call3_v2 : Ref sig .tc := ⟨.hbm, 28, rfl⟩
abbrev main_call3_v3 : Ref sig .tc := ⟨.hbm, 29, rfl⟩
abbrev main_call3_v4 : Ref sig .tc := ⟨.hbm, 30, rfl⟩
abbrev main_v9 : Ref sig .tc := ⟨.hbm, 31, rfl⟩
abbrev main_cst_5 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_c_6 : Ref sig .tc := ⟨.hbm, 38, rfl⟩
abbrev main_call4_v0 : Ref sig .tc := ⟨.hbm, 39, rfl⟩
abbrev main_call4_v1 : Ref sig .tc := ⟨.hbm, 40, rfl⟩
abbrev main_call4_v2 : Ref sig .tc := ⟨.hbm, 41, rfl⟩
abbrev main_call4_v3 : Ref sig .tc := ⟨.hbm, 42, rfl⟩
abbrev main_call4_v4 : Ref sig .tc := ⟨.hbm, 43, rfl⟩
abbrev main_call4_v5 : Ref sig .tc := ⟨.hbm, 44, rfl⟩
abbrev main_call4_v6 : Ref sig .tc := ⟨.hbm, 45, rfl⟩
abbrev main_call4_v7 : Ref sig .tc := ⟨.hbm, 46, rfl⟩
abbrev main_call4_v8 : Ref sig .tc := ⟨.hbm, 47, rfl⟩
abbrev main_call4_c : Ref sig .tc := ⟨.hbm, 48, rfl⟩
abbrev main_call4_v9 : Ref sig .tc := ⟨.hbm, 49, rfl⟩
abbrev main_call4_v10 : Ref sig .tc := ⟨.hbm, 50, rfl⟩
abbrev main_call4_v11 : Ref sig .tc := ⟨.hbm, 51, rfl⟩
abbrev main_call4_c_0 : Ref sig .tc := ⟨.hbm, 52, rfl⟩
abbrev main_call4_v12 : Ref sig .tc := ⟨.hbm, 53, rfl⟩
abbrev main_call4_v13 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_7 : Ref sig .tc := ⟨.hbm, 58, rfl⟩
abbrev main_call5_v0 : Ref sig .tc := ⟨.hbm, 59, rfl⟩
abbrev main_call5_v1 : Ref sig .tc := ⟨.hbm, 60, rfl⟩
abbrev main_call5_v2 : Ref sig .tc := ⟨.hbm, 61, rfl⟩
abbrev main_call5_v3 : Ref sig .tc := ⟨.hbm, 62, rfl⟩
abbrev main_call5_v4 : Ref sig .tc := ⟨.hbm, 63, rfl⟩
abbrev main_call5_v5 : Ref sig .tc := ⟨.hbm, 64, rfl⟩
abbrev main_call5_v6 : Ref sig .tc := ⟨.hbm, 65, rfl⟩
abbrev main_call5_v7 : Ref sig .tc := ⟨.hbm, 66, rfl⟩
abbrev main_call5_v8 : Ref sig .tc := ⟨.hbm, 67, rfl⟩
abbrev main_call5_c : Ref sig .tc := ⟨.hbm, 68, rfl⟩
abbrev main_call5_v9 : Ref sig .tc := ⟨.hbm, 69, rfl⟩
abbrev main_call5_v10 : Ref sig .tc := ⟨.hbm, 70, rfl⟩
abbrev main_call5_v11 : Ref sig .tc := ⟨.hbm, 71, rfl⟩
abbrev main_call5_c_0 : Ref sig .tc := ⟨.hbm, 72, rfl⟩
abbrev main_call5_v12 : Ref sig .tc := ⟨.hbm, 73, rfl⟩
abbrev main_call5_v13 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_cst_8 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_cst_9 : Ref sig .tc := ⟨.hbm, 85, rfl⟩
abbrev main_call6_v0 : Ref sig .tc := ⟨.hbm, 86, rfl⟩
abbrev main_call6_v1 : Ref sig .tc := ⟨.hbm, 87, rfl⟩
abbrev main_call6_v2 : Ref sig .tc := ⟨.hbm, 88, rfl⟩
abbrev main_v27 : Ref sig .tc := ⟨.hbm, 89, rfl⟩
abbrev main_cst_10 : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_v31 : Ref sig .tc := ⟨.hbm, 94, rfl⟩
abbrev main_v32 : Ref sig .tc := ⟨.hbm, 95, rfl⟩
abbrev main_c_11 : Ref sig .tc := ⟨.hbm, 96, rfl⟩
abbrev main_v33 : Ref sig .tc := ⟨.hbm, 97, rfl⟩
abbrev main_v34 : Ref sig .tc := ⟨.hbm, 98, rfl⟩
abbrev main_cst_12 : Ref sig .tc := ⟨.hbm, 99, rfl⟩
abbrev main_v35 : Ref sig .tc := ⟨.hbm, 100, rfl⟩
abbrev main_v36 : Ref sig .tc := ⟨.hbm, 101, rfl⟩
abbrev main_cst_13 : Ref sig .tc := ⟨.hbm, 102, rfl⟩
abbrev main_call7_v0 : Ref sig .tc := ⟨.hbm, 103, rfl⟩
abbrev main_call7_v1 : Ref sig .tc := ⟨.hbm, 104, rfl⟩
abbrev main_call7_v2 : Ref sig .tc := ⟨.hbm, 105, rfl⟩
abbrev main_v37 : Ref sig .tc := ⟨.hbm, 106, rfl⟩
abbrev main_v38 : Ref sig .tc := ⟨.hbm, 107, rfl⟩
abbrev main_v39 : Ref sig .tc := ⟨.hbm, 108, rfl⟩
abbrev main_v40 : Ref sig .tc := ⟨.hbm, 109, rfl⟩
abbrev main_cst_14 : Ref sig .tc := ⟨.hbm, 110, rfl⟩
abbrev main_call8_v0 : Ref sig .tc := ⟨.hbm, 111, rfl⟩
abbrev main_call8_v1 : Ref sig .tc := ⟨.hbm, 112, rfl⟩
abbrev main_call8_v2 : Ref sig .tc := ⟨.hbm, 113, rfl⟩
abbrev main_v41 : Ref sig .tc := ⟨.hbm, 114, rfl⟩
abbrev main_v42 : Ref sig .tc := ⟨.hbm, 115, rfl⟩
abbrev main_v43 : Ref sig .tc := ⟨.hbm, 116, rfl⟩
abbrev main_v44 : Ref sig .tc := ⟨.hbm, 117, rfl⟩
abbrev main_v45 : Ref sig .tc := ⟨.hbm, 118, rfl⟩

abbrev nD : Nat := 1
abbrev τ : Topo := Topo.v7x

variable {F : FTy → Type} [FloatOps F]
-- ==== Proof.Proto.lean ====
/-
# The exchange's protocol

Four devices. Device `s` sends its quantised keys (`j = 0`) and values (`j = 1`) into slot `s` of every later device
`t > s`. Before any copy every device signals the three others' barrier cell and waits for three signals on its own.

* `barCell c` — the barrier cell of device `c`. The signal of `p` (duty `p`) hands `c`, when `c < p`, slot `c` of `p`'s two
  receive buffers, and that `p`'s two receive cells for copies of `c` are open.
* `sendCell j c t` — credited on the sender `c` when its copy to `t` has left; hands back the share of the source lent to it.
* `recvCell j t s` — credited on the receiver `t` when the copy of `s` has landed; hands slot `s`, which then reads as the
  codes of `s`.

Every duty is named by the device that pays it.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The resource algebra -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Buffers -/

/-- The staged keys and values of a device. -/
abbrev stgM : Fin 2 → Memref sig .tc .vmem S2x4x64x256 .i8
  | 0 => Memref.whole cc0_stg2_0
  | 1 => Memref.whole cc0_stg3_0

/-- The receive buffers, a slot of each per sending device. -/
abbrev allM : Fin 2 → Memref sig .tc .vmem S4x2x4x64x256 .i8
  | 0 => Memref.whole cc0_scratch0
  | 1 => Memref.whole cc0_scratch1

theorem inbSlot (s : Dev nD) : ∀ a, (![s.val, 0, 0, 0, 0] : Fin 5 → ℕ) a + S1x2x4x64x256.size a ≤ S4x2x4x64x256.size a := by
  revert s; decide

/-- Slot `s` of a receive buffer. -/
abbrev slotM (j : Fin 2) (s : Dev nD) : Memref sig .tc .vmem S2x4x64x256 .i8 :=
  ((allM j).slice (Rect.unit (s := S4x2x4x64x256) ![s.val, 0, 0, 0, 0] S1x2x4x64x256.size (inbSlot s)) (fun _ => rfl)).squeeze
    S2x4x64x256 squeezes_S1x2x4x64x256_S2x4x64x256

/-- The bytes a copy counts on its semaphores. -/
def N : ℕ := (slotM 0 0).view.dmaCredit
theorem N_pos : 0 < N := View.dmaCredit_pos _ (by decide)
theorem slot_credit (j : Fin 2) (s : Dev nD) : (slotM j s).view.dmaCredit = N := by revert j s; decide
theorem stg_credit (j : Fin 2) : (stgM j).view.dmaCredit = N := by revert j; decide

/-- The contents of a device's staged keys (`j = 0`) or values (`j = 1`). -/
abbrev Codes (F : FTy → Type) : Type := (j : Fin 2) → (stgM j).view.ty.Contents (Elt F)

/-! ## Cells -/

abbrev barS : Sem sig := (SemArray.scalar (sig.barrier 0 rfl) : Sems sig S_).sem

/-- The send semaphore of copies to `t`, and the receive semaphore of copies from `s`. -/
def sendS (j : Fin 2) (t : Dev nD) : DmaSem sig := ⟨6 + 4 * j.val + t.val, by have := j.isLt; have : t.val < 4 := t.isLt; show _ < 22; omega⟩
def recvS (j : Fin 2) (s : Dev nD) : DmaSem sig := ⟨14 + 4 * j.val + s.val, by have := j.isLt; have : s.val < 4 := s.isLt; show _ < 22; omega⟩

abbrev barCell (c : Dev nD) : GSem nD τ sig := ((c : Thread nD τ), .reg barS)
abbrev sendCell (j : Fin 2) (c t : Dev nD) : GSem nD τ sig := ((c : Thread nD τ), .dma (sendS j t))
abbrev recvCell (j : Fin 2) (c s : Dev nD) : GSem nD τ sig := ((c : Thread nD τ), .dma (recvS j s))

/-- What a DMA semaphore is used for: `false` sending to, `true` receiving from, the device named. -/
def dec (d : DmaSem sig) : Option (Fin 2 × Bool × Dev nD) :=
  if h : 6 ≤ d.val then
    if d.val < 14 then some (⟨(d.val - 6) / 4 % 2, Nat.mod_lt _ (by decide)⟩, false, ⟨(d.val - 6) % 4, Nat.mod_lt _ (by decide)⟩)
    else some (⟨(d.val - 14) / 4 % 2, Nat.mod_lt _ (by decide)⟩, true, ⟨(d.val - 14) % 4, Nat.mod_lt _ (by decide)⟩)
  else none

theorem dec_send (j : Fin 2) (t : Dev nD) : dec (sendS j t) = some (j, false, t) := by revert j t; decide
theorem dec_recv (j : Fin 2) (s : Dev nD) : dec (recvS j s) = some (j, true, s) := by revert j s; decide

/-! ## Shares of the source: one per copy, and one kept for the loads -/

abbrev sh : Dev nD → PosShare TreeShare
  | 0 => fullShare.right.right.right
  | 1 => fullShare.left
  | 2 => fullShare.right.left
  | 3 => fullShare.right.right.left

section Pay

variable (kv : Dev nD → Codes F)

/-- The share `sh t` of the staged codes of `c`. -/
def stgPts (j : Fin 2) (c t : Dev nD) : sProp 𝕄 := (stgM j).view.loc (c : Thread nD τ) ↦[(stgM j).view.set]{sh t} kv c j

/-- Slot `s` on device `c`, at some contents; -/
def slotAny (j : Fin 2) (c s : Dev nD) : sProp 𝕄 := iprop(∃ f, (slotM j s).view.loc (c : Thread nD τ) ↦[(slotM j s).view.set]{fullShare} f)
/-- at contents that read as the codes of `s`. -/
def slotPts (j : Fin 2) (c s : Dev nD) : sProp 𝕄 :=
  iprop(∃ f, ⌜(slotM j s).view.read (Elt F) f = (stgM j).view.read (Elt F) (kv s j)⌝
    ∗ (slotM j s).view.loc (c : Thread nD τ) ↦[(slotM j s).view.set]{fullShare} f)

/-- What the signal of `p` hands device `c`. -/
def barPay (c p : Dev nD) : sProp 𝕄 :=
  if c < p then iprop((slotAny 0 p c ∗ slotAny 1 p c) ∗ reached ER (recvCell 0 p c) 0 ∗ reached ER (recvCell 1 p c) 0) else iprop(emp)

instance stgPts_storable (j : Fin 2) (c t : Dev nD) : BI.Storable (upEmb : UEmb _ 𝕄) (stgPts kv j c t) := by unfold stgPts; infer_instance
omit [FloatOps F] [Named F] in
instance slotAny_storable (j : Fin 2) (c s : Dev nD) : BI.Storable (upEmb : UEmb _ 𝕄) (slotAny (F := F) j c s) := by unfold slotAny; infer_instance
instance slotPts_storable (j : Fin 2) (c s : Dev nD) : BI.Storable (upEmb : UEmb _ 𝕄) (slotPts kv j c s) := by unfold slotPts; infer_instance
omit [FloatOps F] [Named F] in
instance barPay_storable (c p : Dev nD) : BI.Storable (upEmb : UEmb _ 𝕄) (barPay (F := F) c p) := by
  unfold barPay; split <;> infer_instance

/-! ## The schedule -/

/-- The duties of round 0 of a cell of device `c`. -/
def dutD (c : Dev nD) : Option (Fin 2 × Bool × Dev nD) → Finset (Dev nD)
  | none => ∅
  | some (_, false, t) => if c < t then {c} else ∅
  | some (_, true, s) => if s < c then {s} else ∅
def dut (c : Dev nD) : SemLoc sig → Finset (Dev nD)
  | .reg s => if s = barS then Finset.univ.erase c else ∅
  | .dma d => dutD c (dec d)

/-- What the payment of duty `p` hands the device `c` that owns the cell. -/
def payD (c : Dev nD) : Option (Fin 2 × Bool × Dev nD) → sProp 𝕄
  | none => iprop(emp)
  | some (j, false, t) => stgPts kv j c t
  | some (j, true, s) => slotPts kv j c s
def pay (c : Dev nD) (p : Dev nD) : SemLoc sig → sProp 𝕄
  | .reg _ => barPay c p
  | .dma d => payD kv c (dec d)

instance pay_storable (c p : Dev nD) (sm : SemLoc sig) : BI.Storable (upEmb : UEmb _ 𝕄) (pay kv c p sm) := by
  unfold pay payD; (repeat' split) <;> infer_instance

def Rd : Rounds.Schedule (GSem nD τ sig) (Dev nD) 𝕄 where
  duties g r := if r = 0 ∧ g.1.2 = .tc then dut g.1.1 g.2 else ∅
  unitless _ := False
  amount g _ _ := if g.2 = .reg barS then 1 else N
  payload g _ d := pay kv g.1.1 d g.2
  amount_pos g _ _ _ := by
    by_cases h : g.2 = .reg barS
    · rw [if_pos h]; exact Nat.one_pos
    · rw [if_neg h]; exact N_pos

instance Rd_payload_storable (g : GSem nD τ sig) (r : ℕ) (d : Dev nD) :
    BI.Storable (upEmb : UEmb _ 𝕄) ((Rd kv).payload g r d) := by
  show BI.Storable upEmb (pay kv g.1.1 d g.2)
  infer_instance

theorem duties_bar (c : Dev nD) : (Rd kv).duties (barCell c) 0 = Finset.univ.erase c := by
  dsimp only [Rd]; rw [if_pos ⟨rfl, rfl⟩]
  show (if barS = barS then Finset.univ.erase c else ∅) = _
  exact if_pos rfl
theorem dut_send (j : Fin 2) (c t : Dev nD) : dut c (.dma (sendS j t)) = if c < t then {c} else ∅ := by
  show dutD c (dec (sendS j t)) = _; rw [dec_send]; rfl
theorem dut_recv (j : Fin 2) (c s : Dev nD) : dut c (.dma (recvS j s)) = if s < c then {s} else ∅ := by
  show dutD c (dec (recvS j s)) = _; rw [dec_recv]; rfl
theorem duties_send' (j : Fin 2) (c t : Dev nD) : (Rd kv).duties (sendCell j c t) 0 = if c < t then {c} else ∅ := by
  dsimp only [Rd]; rw [if_pos ⟨rfl, rfl⟩]; exact dut_send j c t
theorem duties_recv' (j : Fin 2) (c s : Dev nD) : (Rd kv).duties (recvCell j c s) 0 = if s < c then {s} else ∅ := by
  dsimp only [Rd]; rw [if_pos ⟨rfl, rfl⟩]; exact dut_recv j c s
theorem duties_send (j : Fin 2) {c t : Dev nD} (h : c < t) : (Rd kv).duties (sendCell j c t) 0 = {c} := by
  rw [duties_send', if_pos h]
theorem duties_recv (j : Fin 2) {c s : Dev nD} (h : s < c) : (Rd kv).duties (recvCell j c s) 0 = {s} := by
  rw [duties_recv', if_pos h]
theorem duties_later (g : GSem nD τ sig) : ∀ r, 1 ≤ r → (Rd kv).duties g r = ∅ :=
  fun r hr => by dsimp only [Rd]; rw [if_neg fun h => by omega]

theorem amount_bar (c : Dev nD) (r : ℕ) (d : Dev nD) : (Rd kv).amount (barCell c) r d = 1 := by dsimp only [Rd]; exact if_pos rfl
theorem amount_dma (c : Dev nD) (s : DmaSem sig) (r : ℕ) (d : Dev nD) : (Rd kv).amount ((c : Thread nD τ), .dma s) r d = N := by
  dsimp only [Rd]; exact if_neg (fun h => by cases h)

theorem expect_bar (c : Dev nD) : (Rd kv).expect (barCell c) 0 = 3 := by
  unfold Schedule.expect Schedule.amountOf; rw [duties_bar, Finset.sum_congr rfl (fun d _ => amount_bar kv c 0 d), Finset.sum_const]
  revert c; decide
theorem expect_send (j : Fin 2) {c t : Dev nD} (h : c < t) : (Rd kv).expect (sendCell j c t) 0 = N := by
  unfold Schedule.expect Schedule.amountOf; rw [duties_send kv j h, Finset.sum_singleton, amount_dma]
theorem expect_recv (j : Fin 2) {c s : Dev nD} (h : s < c) : (Rd kv).expect (recvCell j c s) 0 = N := by
  unfold Schedule.expect Schedule.amountOf; rw [duties_recv kv j h, Finset.sum_singleton, amount_dma]

theorem payload_bar (c d : Dev nD) : (Rd kv).payload (barCell c) 0 d = barPay c d := rfl
theorem payload_send (j : Fin 2) (c t d : Dev nD) : (Rd kv).payload (sendCell j c t) 0 d = stgPts kv j c t := by
  show payD kv c (dec (sendS j t)) = _; rw [dec_send]; rfl
theorem payload_recv (j : Fin 2) (c s d : Dev nD) : (Rd kv).payload (recvCell j c s) 0 d = slotPts kv j c s := by
  show payD kv c (dec (recvS j s)) = _; rw [dec_recv]; rfl

theorem rest_bar (c : Dev nD) : bigSep ((Rd kv).duties (barCell c) 0 \ ∅) (fun d => (Rd kv).payload (barCell c) 0 d)
    = bigSep (Finset.univ.erase c) (fun d => barPay c d) := by
  rw [Finset.sdiff_empty, duties_bar]; rfl
theorem rest_send (j : Fin 2) {c t : Dev nD} (h : c < t) :
    bigSep ((Rd kv).duties (sendCell j c t) 0 \ ∅) (fun d => (Rd kv).payload (sendCell j c t) 0 d) = stgPts kv j c t := by
  rw [Finset.sdiff_empty, duties_send kv j h, bigSep_singleton, payload_send]
theorem rest_recv (j : Fin 2) {c s : Dev nD} (h : s < c) :
    bigSep ((Rd kv).duties (recvCell j c s) 0 \ ∅) (fun d => (Rd kv).payload (recvCell j c s) 0 d) = slotPts kv j c s := by
  rw [Finset.sdiff_empty, duties_recv kv j h, bigSep_singleton, payload_recv]

end Pay

/-! ## What a device owes at launch; levels -/

/-- The barrier unit device `c` pays to `p`. -/
def ob (c p : Dev nD) : CellTallies nD τ sig Unit := if p = c then 0 else tallyAt (barCell p) () 1
/-- The two landings device `c` pays when it is the sender `s` of the copies to `t`. -/
def os (c s t : Dev nD) : CellTallies nD τ sig Unit :=
  if c = s then tallyAt (recvCell 1 t s) () N + tallyAt (recvCell 0 t s) () N else 0
def OS (c : Dev nD) : CellTallies nD τ sig Unit := 0 + os c 2 3 + os c 1 2 + os c 1 3 + os c 0 1 + os c 0 2 + os c 0 3
def O₀ (c : Dev nD) : CellTallies nD τ sig Unit := OS c + ob c 3 + ob c 2 + ob c 1 + ob c 0

def L (g : GSem nD τ sig) : Finset Unit := if g.1.2 = .tc then {()} else ∅

/-- Whether a semaphore is one of the receive semaphores. -/
def isRecv : SemLoc sig → Bool
  | .reg _ => false
  | .dma d => decide (14 ≤ d.val)

theorem isRecv_recv (j : Fin 2) (s : Dev nD) : isRecv (.dma (recvS j s)) = true := by revert j s; decide

/-- Barrier cells at 1, receive cells at 2, the rest at 0. -/
def lv (g : GSem nD τ sig) (_ : Unit) : ℕ := if g.2 = .reg barS then 1 else if isRecv g.2 then 2 else 0

theorem L_of_ne (g : GSem nD τ sig) (h : g.1.2 ≠ .tc) : L g = ∅ := if_neg h
theorem L_tc (c : Dev nD) (sm : SemLoc sig) : L ((c : Thread nD τ), sm) = {()} := if_pos rfl

/-- Nothing but landings is owed. -/
def RecvOnly (O : CellTallies nD τ sig Unit) : Prop := ∀ g u, 0 < O g u → ∃ j c s, g = recvCell j c s

theorem RecvOnly.zero : RecvOnly 0 := fun g u h => absurd h (by simp)
theorem RecvOnly.add {O O' : CellTallies nD τ sig Unit} (h : RecvOnly O) (h' : RecvOnly O') : RecvOnly (O + O') := fun g u hg => by
  rw [Pi.add_apply, Finsupp.add_apply] at hg
  rcases Nat.eq_zero_or_pos (O g u) with h0 | h0
  · exact h' g u (by omega)
  · exact h g u h0
theorem RecvOnly.tally (j : Fin 2) (c s : Dev nD) (n : ℕ) : RecvOnly (tallyAt (recvCell j c s) () n) := fun g u hg => by
  rw [tallyAt_apply] at hg
  by_cases h : g = recvCell j c s ∧ u = ()
  · exact ⟨j, c, s, h.1⟩
  · rw [if_neg h] at hg; exact absurd hg (Nat.lt_irrefl 0)
theorem RecvOnly.os (c s t : Dev nD) : RecvOnly (os c s t) := by
  unfold Attn.os; split
  · exact RecvOnly.add (RecvOnly.tally _ _ _ _) (RecvOnly.tally _ _ _ _)
  · exact .zero
theorem RecvOnly.OS (c : Dev nD) : RecvOnly (OS c) :=
  RecvOnly.add (RecvOnly.add (RecvOnly.add (RecvOnly.add (RecvOnly.add (RecvOnly.add RecvOnly.zero (RecvOnly.os _ _ _))
    (RecvOnly.os _ _ _)) (RecvOnly.os _ _ _)) (RecvOnly.os _ _ _)) (RecvOnly.os _ _ _)) (RecvOnly.os _ _ _)

theorem mayWait_bar (c : Dev nD) :
    (levAts L lv : sProp 𝕄) ⊢ MayWait (c : Thread nD τ) (.reg barS) () (OS c) :=
  MayOwe.of_cut (L := L) (lev := lv) 1 (fun p hp => by rw [Finset.mem_singleton.mp hp, L_tc]; exact Finset.mem_singleton_self _)
    (fun g u hg => by
      obtain ⟨j, t, s, rfl⟩ := RecvOnly.OS c g u hg
      rw [L_tc]; exact Finset.mem_singleton_self _)
    (fun p hp => by rw [Finset.mem_singleton.mp hp]; dsimp only [lv]; rw [if_pos rfl])
    (fun g u hg => by
      obtain ⟨j, t, s, rfl⟩ := RecvOnly.OS c g u hg
      dsimp only [lv]; rw [if_neg (fun h => by cases h), if_pos (isRecv_recv j s)]; decide)

end Cert.KernelIdeal.Attn
-- ==== Proof.Steps.lean ====
/-
# The guarded statements of the kernel

Every signal, copy and wait of the kernel stands under a test of the device's place. Each lemma here takes one such guarded
statement in one step, for a device `c` not chosen: what the statement uses and what it gives is stated with the same test.
-/
module

public import proofs.«01_k».proof.Proof.Proto

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

abbrev 𝒱₀ : Variants := Variants.none

/-- The weakest precondition of a piece of the kernel on device `c`. -/
abbrev WP {α : Type} (c : Dev nD) (p : Prog (TpuEff nD τ sig (Elt F) Λ₀ .tc) α) (Q : α → sProp 𝕄) : sProp 𝕄 :=
  wp frame (wpE (defs₀ (F := F)) 𝒱₀ c none) Set.univ p Q

theorem fupd_WP {α : Type} (c : Dev nD) (p : Prog (TpuEff nD τ sig (Elt F) Λ₀ .tc) α) (Q : α → sProp 𝕄) :
    iprop(|={Set.univ}=> WP c p Q) ⊢ WP c p Q := Entails.of_eq (fupd_wp_eq _ _ _ _ _)

/-- Device `c` owes `O`. -/
def Ow (c : Dev nD) (O : CellTallies nD τ sig Unit) : sProp 𝕄 := iprop(∃ W, owes (c : Thread nD τ) O W)

/-! ## The protocol's seventeen cells of a device -/

def csem (k : Fin 17) : SemLoc sig := if h : k.val = 0 then .reg barS else .dma ⟨k.val + 5, by have := k.isLt; show _ < 22; omega⟩
abbrev kcell (c : Dev nD) (k : Fin 17) : GSem nD τ sig := ((c : Thread nD τ), csem k)

def kSend (j : Fin 2) (t : Dev nD) : Fin 17 := ⟨1 + 4 * j.val + t.val, by have := j.isLt; have : t.val < 4 := t.isLt; omega⟩
def kRecv (j : Fin 2) (s : Dev nD) : Fin 17 := ⟨9 + 4 * j.val + s.val, by have := j.isLt; have : s.val < 4 := s.isLt; omega⟩
theorem csem_bar : csem 0 = .reg barS := rfl
theorem csem_send (j : Fin 2) (t : Dev nD) : csem (kSend j t) = .dma (sendS j t) := by revert j t; decide
theorem csem_recv (j : Fin 2) (s : Dev nD) : csem (kRecv j s) = .dma (recvS j s) := by revert j s; decide

variable (kv : Dev nD → Codes F) (K : GSem nD τ sig → ℕ)

/-- The invariants of all cells of all devices, at the names `K`. -/
def invs : sProp 𝕄 := bigSep Finset.univ fun c : Dev nD => bigSep Finset.univ fun k : Fin 17 => cellInv ER (Rd kv) (K (kcell c k)) (kcell c k)
instance invs_persistent : BI.Persistent (invs kv K) := by unfold invs; infer_instance

theorem inv_at (c : Dev nD) (k : Fin 17) : invs kv K ⊢ cellInv ER (Rd kv) (K (kcell c k)) (kcell c k) :=
  (bigSep_elim (Finset.mem_univ c)).trans (bigSep_elim (Finset.mem_univ k))
theorem inv_bar (c : Dev nD) : invs kv K ⊢ cellInv ER (Rd kv) (K (barCell c)) (barCell c) := inv_at kv K c 0
theorem inv_send (j : Fin 2) (c t : Dev nD) : invs kv K ⊢ cellInv ER (Rd kv) (K (sendCell j c t)) (sendCell j c t) := by
  have h := inv_at kv K c (kSend j t)
  simp only [kcell, csem_send] at h
  exact h
theorem inv_recv (j : Fin 2) (c t : Dev nD) : invs kv K ⊢ cellInv ER (Rd kv) (K (recvCell j c t)) (recvCell j c t) := by
  have h := inv_at kv K c (kRecv j t)
  simp only [kcell, csem_recv] at h
  exact h

/-- Round 0 of all cells of device `c` is open. -/
def openAll (c : Dev nD) : sProp 𝕄 := bigSep Finset.univ fun k : Fin 17 => reached ER (kcell c k) 0
instance openAll_persistent (c : Dev nD) : BI.Persistent (openAll (F := F) c) := by unfold openAll; infer_instance
theorem open_send (j : Fin 2) (c t : Dev nD) : openAll (F := F) c ⊢ reached ER (sendCell j c t) 0 := by
  have h : openAll (F := F) c ⊢ reached ER (kcell c (kSend j t)) 0 := bigSep_elim (Finset.mem_univ _)
  simp only [kcell, csem_send] at h
  exact h
theorem open_recv (j : Fin 2) (c t : Dev nD) : openAll (F := F) c ⊢ reached ER (recvCell j c t) 0 := by
  have h : openAll (F := F) c ⊢ reached ER (kcell c (kRecv j t)) 0 := bigSep_elim (Finset.mem_univ _)
  simp only [kcell, csem_recv] at h
  exact h

/-- Round 0 of every barrier cell is open. -/
def openBar : sProp 𝕄 := bigSep Finset.univ fun c : Dev nD => reached ER (barCell c) 0
instance openBar_persistent : BI.Persistent (openBar (F := F)) := by unfold openBar; infer_instance
theorem open_bar (c : Dev nD) : openBar (F := F) ⊢ reached ER (barCell c) 0 := bigSep_elim (Finset.mem_univ _)

theorem close (κ : ℕ) (g : GSem nD τ sig) {R : ℕ} (hR : ∀ r, R ≤ r → (Rd kv).duties g r = ∅) :
    iprop(cellInv ER (Rd kv) κ g ∗ atPos ER g R ∅ 0) ⊢ (|={Set.univ}=> semVal g 0 : sProp 𝕄) :=
  Rounds.cell_close ER (Rd kv) (Set.mem_univ κ) id hR

/-! ## The ready signals and the wait for them -/

/-- What device `c` signals `p` with. -/
def sigB (c p : Dev nD) : sProp 𝕄 := if p = c then iprop(emp) else iprop(dutyTok ER (barCell p) 0 c ∗ barPay p c)

theorem sig_step {α : Type} (c p : Dev nD) {C : Prop} [Decidable C] (hC : C ↔ p ≠ c) {dev : C → Dev nD} (hdev : ∀ h, dev h = p)
    {sem : Sem sig} (hsem : sem = barS)
    (O : CellTallies nD τ sig Unit) (kk : Prog (TpuEff nD τ sig (Elt F) Λ₀ .tc) α) (Q : α → sProp 𝕄) :
    iprop(invs kv K ∗ openBar ∗ sigB c p ∗ Ow c (O + ob c p)) ⊢ iprop((Ow c O -∗ WP c kk Q)
      -∗ WP c (if h : C then (do semSignalWord (dev h) sem 1#32; kk) else kk) Q) := by
  subst hsem
  by_cases h : C
  · rw [dif_pos h, hdev h]
    unfold Ow sigB ob
    rw [if_neg (hC.mp h), if_neg (hC.mp h)]
    iintro ⟨#HI, #HR, ⟨Ht, Hpay⟩, ⟨%W, HO⟩⟩ Hk
    iapply (Rounds.wp_signal 𝒱₀ ER (Rd kv) (c : Thread nD τ) none (dst := (p : Thread nD τ)) (sem := barS) (r := 0) (d := c) (κ := K (barCell p))
      (by rw [duties_bar]; exact Finset.mem_erase.mpr ⟨fun e => hC.mp h e.symm, Finset.mem_univ _⟩) (amount_bar kv p 0 c) () O rfl)
      $$ [HO Ht Hpay]
    · isplitr; · iapply (inv_bar kv K p); iexact HI
      isplitl [HO]; · iexact HO
      isplitl [Ht]; · iexact Ht
      isplitl [Hpay]; · rw [payload_bar]; iexact Hpay
      iapply (open_bar p); iexact HR
    iintro HO
    iapply Hk
    iexists W; iexact HO
  · rw [dif_neg h]
    unfold Ow sigB ob
    rw [if_pos (not_not.mp fun e => h (hC.mpr e)), if_pos (not_not.mp fun e => h (hC.mpr e)), add_zero]
    iintro ⟨-, -, -, HO⟩ Hk
    iapply Hk
    iexact HO

theorem bar_wait {α : Type} (c : Dev nD) (kk : Prog (TpuEff nD τ sig (Elt F) Λ₀ .tc) α) (Q : α → sProp 𝕄) :
    iprop(invs kv K ∗ levAts L lv ∗ cred (tallyAt (barCell c) () 3) ∗ atPos ER (barCell c) 0 ∅ 0 ∗ Ow c (OS c))
      ⊢ iprop(((Ow c (OS c) ∗ semVal (barCell c) 0 ∗ bigSep (Finset.univ.erase c) (fun d => barPay c d)) -∗ WP c kk Q)
      -∗ WP c (.op (.semWait barS (3 : ℕ)) fun _ => kk) Q) := by
  unfold Ow
  iintro ⟨#HI, #Hlev, Hc, Hat, ⟨%W, HO⟩⟩ Hk
  iapply (Rounds.wp_wait_rest_token 𝒱₀ ER (Rd kv) (c : Thread nD τ) none (κ := K (barCell c)) (sm := .reg barS) (k' := 3)
      (wpE_semWait_eq 𝒱₀ (c : Thread nD τ) none Set.univ) (Set.mem_univ _) () (O := OS c) (W := W) (R := 0) (m := 0) (T := ∅)
      ((Nat.zero_add _).trans (expect_bar kv c).symm)) $$ [Hc HO Hat]
  · isplitr; · iapply (inv_bar kv K c); iexact HI
    isplitl [Hc]; · iexact Hc
    isplitl [HO]; · iexact HO
    isplitr; · iapply (mayWait_bar c); iexact Hlev
    iexact Hat
  iintro ⟨HO, Hat, -, Hp⟩
  ihave Hpay := (Entails.of_eq (rest_bar kv c)) $$ Hp
  iapply (fupd_WP c kk Q)
  imod (close kv (K (barCell c)) (barCell c) (duties_later kv _)) $$ [Hat] with Hb
  · isplitr; · iapply (inv_bar kv K c); iexact HI
    iexact Hat
  imodintro
  iapply Hk
  isplitl [HO]; · iexists _; iexact HO
  isplitl [Hb]; · iexact Hb
  iexact Hpay

theorem bar_step {α : Type} (c : Dev nD) {sem : Sem sig} (hsem : sem = barS) (kk : Prog (TpuEff nD τ sig (Elt F) Λ₀ .tc) α) (Q : α → sProp 𝕄) :
    iprop(invs kv K ∗ levAts L lv ∗ cred (tallyAt (barCell c) () 3) ∗ atPos ER (barCell c) 0 ∅ 0 ∗ Ow c (OS c))
      ⊢ iprop(((Ow c (OS c) ∗ semVal (barCell c) 0 ∗ bigSep (Finset.univ.erase c) (fun d => barPay c d)) -∗ WP c kk Q)
      -∗ WP c (do semWaitWord sem 3#32; kk) Q) := by
  subst hsem; exact bar_wait kv K c kk Q

/-! ## The copies -/

/-- What device `c`, as the sender `s`, uses for its two copies to `t`. -/
def sendB (c s t : Dev nD) : sProp 𝕄 :=
  if c = s then iprop((dutyTok ER (sendCell 0 s t) 0 s ∗ dutyTok ER (recvCell 0 t s) 0 s ∗ dutyTok ER (sendCell 1 s t) 0 s ∗ dutyTok ER (recvCell 1 t s) 0 s)
    ∗ (stgPts kv 0 s t ∗ stgPts kv 1 s t)
    ∗ (slotAny 0 t s ∗ slotAny 1 t s) ∗ reached ER (recvCell 0 t s) 0 ∗ reached ER (recvCell 1 t s) 0) else iprop(emp)

/-- The credits with which device `c`, as the sender `s`, waits for its copies to `t` to have left. -/
def credB (c s t : Dev nD) : sProp 𝕄 :=
  if c = s then iprop(cred (tallyAt (sendCell 0 s t) () N) ∗ cred (tallyAt (sendCell 1 s t) () N)) else iprop(emp)

theorem landed (j : Fin 2) (s t : Dev nD) (fd : Buf (Elt F) ((slotM j s).view.loc (t : Thread nD τ))) :
    ((slotM j s).view.loc (t : Thread nD τ) ↦[(slotM j s).view.set]{fullShare}
        ((slotM j s).view.write (Elt F) fd ((stgM j).view.read (Elt F) (kv s j)) Finset.univ) : sProp 𝕄)
      ⊢ slotPts kv j t s := by
  unfold slotPts
  iintro H
  iexists ((slotM j s).view.write (Elt F) fd ((stgM j).view.read (Elt F) (kv s j)) Finset.univ)
  isplitr; · ipureintro; exact View.read_write_univ _ _
  iexact H

theorem send_one {α : Type} (j : Fin 2) {s t : Dev nD} (hst : s < t) (dev : Dev nD) (hdev : dev = t) (O : CellTallies nD τ sig Unit)
    {hsrc : (stgM j).view.WordExact} {hdst : (slotM j s).view.WordExact} {hsc : (slotM j s).view.ref.isScScratch = false}
    {hsem : DmaTarget.Typed .vmem (.dma (recvS j s)) (.remote (Dev.tc dev : Thread nD τ) (slotM j s) (.dma (sendS j t)) hsc)}
    (kk : PUnit → Prog (TpuEff nD τ sig (Elt F) Λ₀ .tc) α) (Q : α → sProp 𝕄) :
    iprop(invs kv K ∗ openAll s ∗ (dutyTok ER (sendCell j s t) 0 s ∗ dutyTok ER (recvCell j t s) 0 s) ∗ stgPts kv j s t ∗ slotAny j t s
        ∗ reached ER (recvCell j t s) 0 ∗ Ow s (O + tallyAt (recvCell j t s) () N))
      ⊢ iprop(((cred (tallyAt (sendCell j s t) () N) ∗ Ow s O) -∗ WP s (kk ⟨⟩) Q)
      -∗ WP s (.op (.enqueueDma (stgM j) (.remote (Dev.tc dev : Thread nD τ) (slotM j s) (.dma (sendS j t)) hsc) (.dma (recvS j s)) hsrc hdst hsem) kk) Q) := by
  subst hdev
  unfold Ow stgPts slotAny
  iintro ⟨#HI, #HA, ⟨Ht1, Ht2⟩, Hs, ⟨%fd, Hd⟩, #HR, ⟨%W, HO⟩⟩ Hk
  iapply (Rounds.wp_send_pointsTo 𝒱₀ ER (Rd kv) (s : Thread nD τ) none (c' := (dev : Thread nD τ)) (src := stgM j) (dst := slotM j s)
      (sS := .dma (sendS j dev)) (sem := .dma (recvS j s)) (q := sh dev) (fs := kv s j) (κ₁ := K (sendCell j s dev)) (κ₂ := K (recvCell j dev s))
      (r₁ := 0) (r₂ := 0) (d₁ := s) (d₂ := s) (fd := fd)
      (by rw [duties_send kv j hst]; exact Finset.mem_singleton_self _) (by rw [duties_recv kv j hst]; exact Finset.mem_singleton_self _)
      () () N (slot_credit j s) (amount_dma kv _ _ _ _) (amount_dma kv _ _ _ _) O rfl (W := W)
      (by rw [payload_send]; exact BI.Entails.refl _)
      (by rw [payload_recv]; exact landed kv j s dev fd)) $$ [Ht1 Ht2 Hs Hd HO]
  · isplitr; · iapply (inv_send kv K j s dev); iexact HI
    isplitr; · iapply (inv_recv kv K j dev s); iexact HI
    isplitl [Hs]; · iexact Hs
    isplitl [Hd]; · iexact Hd
    isplitl [HO]; · iexact HO
    isplitl [Ht1]; · iexact Ht1
    isplitr; · iapply (open_send j s dev); iexact HA
    isplitl [Ht2]; · iexact Ht2
    iexact HR
  iintro ⟨Hc, HO⟩
  iapply Hk
  isplitl [Hc]; · iexact Hc
  iexists W; iexact HO

theorem send_step {α : Type} (c : Dev nD) {s t : Dev nD} (hst : s < t) {C : Prop} [Decidable C] (hC : C ↔ c = s) {dev dev' : C → Dev nD}
    (hdev : ∀ h, dev h = t) (hdev' : ∀ h, dev' h = t) (O : CellTallies nD τ sig Unit)
    {sS0 rS0 sS1 rS1 : DmaSem sig} (hs0 : sS0 = sendS 0 t) (hr0 : rS0 = recvS 0 s) (hs1 : sS1 = sendS 1 t) (hr1 : rS1 = recvS 1 s)
    {src0 dst0 src1 dst1 : Memref sig .tc .vmem S2x4x64x256 .i8} (hS0 : src0 = stgM 0) (hD0 : dst0 = slotM 0 s) (hS1 : src1 = stgM 1) (hD1 : dst1 = slotM 1 s)
    {hsrc0 : src0.view.WordExact} {hdst0 : dst0.view.WordExact} {hsc0 : C → dst0.view.ref.isScScratch = false}
    {hsem0 : ∀ h, DmaTarget.Typed .vmem (.dma rS0) (.remote (Dev.tc (dev h) : Thread nD τ) dst0 (.dma sS0) (hsc0 h))}
    {hsrc1 : src1.view.WordExact} {hdst1 : dst1.view.WordExact} {hsc1 : C → dst1.view.ref.isScScratch = false}
    {hsem1 : ∀ h, DmaTarget.Typed .vmem (.dma rS1) (.remote (Dev.tc (dev' h) : Thread nD τ) dst1 (.dma sS1) (hsc1 h))}
    (kk : Prog (TpuEff nD τ sig (Elt F) Λ₀ .tc) α) (Q : α → sProp 𝕄) :
    iprop(invs kv K ∗ openAll c ∗ sendB kv c s t ∗ Ow c (O + os c s t)) ⊢ iprop(((credB c s t ∗ Ow c O) -∗ WP c kk Q)
      -∗ WP c (if h : C then (do
          Prog.lift (.enqueueDma src0 (.remote (Dev.tc (dev h) : Thread nD τ) dst0 (.dma sS0) (hsc0 h)) (.dma rS0) hsrc0 hdst0 (hsem0 h))
          Prog.lift (.enqueueDma src1 (.remote (Dev.tc (dev' h) : Thread nD τ) dst1 (.dma sS1) (hsc1 h)) (.dma rS1) hsrc1 hdst1 (hsem1 h))
          kk) else kk) Q) := by
  subst hs0 hr0 hs1 hr1 hS0 hD0 hS1 hD1
  by_cases h : C
  · rw [dif_pos h]
    obtain rfl := hC.mp h
    unfold sendB os credB
    rw [if_pos rfl, if_pos rfl, if_pos rfl, ← add_assoc]
    iintro ⟨#HI, #HA, ⟨⟨Ht0, Ht0', Ht1, Ht1'⟩, ⟨Hs0, Hs1⟩, ⟨Hd0, Hd1⟩, #HR0, #HR1⟩, HO⟩ Hk
    iapply (send_one kv K 0 hst (dev h) (hdev h) (O + tallyAt (recvCell 1 t c) () N)) $$ [Ht0 Ht0' Hs0 Hd0 HO]
    · isplitr; · iexact HI
      isplitr; · iexact HA
      isplitl [Ht0 Ht0']; · isplitl [Ht0] <;> iassumption
      isplitl [Hs0]; · iexact Hs0
      isplitl [Hd0]; · iexact Hd0
      isplitr; · iexact HR0
      iexact HO
    iintro ⟨Hc0, HO⟩
    iapply (send_one kv K 1 hst (dev' h) (hdev' h) O) $$ [Ht1 Ht1' Hs1 Hd1 HO]
    · isplitr; · iexact HI
      isplitr; · iexact HA
      isplitl [Ht1 Ht1']; · isplitl [Ht1] <;> iassumption
      isplitl [Hs1]; · iexact Hs1
      isplitl [Hd1]; · iexact Hd1
      isplitr; · iexact HR1
      iexact HO
    iintro ⟨Hc1, HO⟩
    iapply Hk
    isplitr [HO]; · isplitl [Hc0] <;> iassumption
    iexact HO
  · rw [dif_neg h]
    have h' : ¬ c = s := fun e => h (hC.mpr e)
    unfold sendB os credB
    rw [if_neg h', if_neg h', if_neg h', add_zero]
    iintro ⟨-, -, -, HO⟩ Hk
    iapply Hk
    isplitr; · iempintro
    iexact HO

/-! ## The waits -/

/-- What device `c`, as the sender `s`, holds after its two copies to `t` have left. -/
def sentB (c s t : Dev nD) : sProp 𝕄 :=
  if c = s then iprop((semVal (sendCell 0 s t) 0 ∗ semVal (sendCell 1 s t) 0) ∗ stgPts kv 0 s t ∗ stgPts kv 1 s t) else iprop(emp)
/-- Its positions on the two send cells. -/
def posB (c s t : Dev nD) : sProp 𝕄 :=
  if c = s then iprop(atPos ER (sendCell 0 s t) 0 ∅ 0 ∗ atPos ER (sendCell 1 s t) 0 ∅ 0) else iprop(emp)

theorem wait_one {α : Type} (c : Dev nD) (sm : DmaSem sig) (src dst : Memref sig .tc .vmem S2x4x64x256 .i8) (hcr : dst.view.dmaCredit = N)
    {hsrc : src.view.WordExact} {hdst : dst.view.WordExact} (hex : (Rd kv).expect ((c : Thread nD τ), .dma sm) 0 = N)
    (kk : PUnit → Prog (TpuEff nD τ sig (Elt F) Λ₀ .tc) α) (Q : α → sProp 𝕄) :
    iprop(cellInv ER (Rd kv) (K ((c : Thread nD τ), .dma sm)) ((c : Thread nD τ), .dma sm) ∗ cred (tallyAt ((c : Thread nD τ), .dma sm) () N)
        ∗ atPos ER ((c : Thread nD τ), .dma sm) 0 ∅ 0 ∗ Ow c 0)
      ⊢ iprop(((Ow c 0 ∗ semVal ((c : Thread nD τ), .dma sm) 0
          ∗ bigSep ((Rd kv).duties ((c : Thread nD τ), .dma sm) 0 \ ∅) (fun d => (Rd kv).payload ((c : Thread nD τ), .dma sm) 0 d)) -∗ WP c (kk ⟨⟩) Q)
      -∗ WP c (.op (.waitDma2 sm src dst hsrc hdst) kk) Q) := by
  unfold Ow
  iintro ⟨#HI, Hc, Hat, ⟨%W, HO⟩⟩ Hk
  iapply (Rounds.wp_wait_rest_token 𝒱₀ ER (Rd kv) (c : Thread nD τ) none (κ := K ((c : Thread nD τ), .dma sm)) (sm := .dma sm) (k' := dst.view.dmaCredit)
      (wpE_waitDma2_eq 𝒱₀ (c : Thread nD τ) none Set.univ) (Set.mem_univ _) () (O := 0) (W := W) (R := 0) (m := 0) (T := ∅)
      ((Nat.zero_add _).trans (hcr.trans hex.symm))) $$ [Hc HO Hat]
  · isplitr; · iexact HI
    isplitl [Hc]; · rw [hcr]; iexact Hc
    isplitl [HO]; · iexact HO
    isplitr; · rw [MayWait_zero]; iempintro
    iexact Hat
  iintro ⟨HO, Hat, -, Hpay⟩
  rw [← fupd_wp_eq]
  imod (close kv (K ((c : Thread nD τ), .dma sm)) ((c : Thread nD τ), .dma sm) (duties_later kv _)) $$ [Hat] with Hb
  · isplitr; · iexact HI
    iexact Hat
  imodintro
  iapply Hk
  isplitl [HO]; · iexists _; iexact HO
  isplitl [Hb]; · iexact Hb
  iexact Hpay

/-- The wait of the sender for its two copies to have left. -/
theorem sent_step {α : Type} (c : Dev nD) {s t : Dev nD} (hst : s < t) {C : Prop} [Decidable C] (hC : C ↔ c = s)
    {sS0 sS1 : DmaSem sig} (hs0 : sS0 = sendS 0 t) (hs1 : sS1 = sendS 1 t)
    {src0 dst0 src1 dst1 : Memref sig .tc .vmem S2x4x64x256 .i8} (hS0 : src0 = slotM 0 s) (hD0 : dst0 = stgM 0) (hS1 : src1 = slotM 1 s) (hD1 : dst1 = stgM 1)
    {hsrc0 : src0.view.WordExact} {hdst0 : dst0.view.WordExact} {hsrc1 : src1.view.WordExact} {hdst1 : dst1.view.WordExact}
    (kk : Prog (TpuEff nD τ sig (Elt F) Λ₀ .tc) α) (Q : α → sProp 𝕄) :
    iprop(invs kv K ∗ credB c s t ∗ posB c s t ∗ Ow c 0) ⊢ iprop(((sentB kv c s t ∗ Ow c 0) -∗ WP c kk Q)
      -∗ WP c (if h : C then (do
          Prog.lift (.waitDma2 sS0 src0 dst0 hsrc0 hdst0)
          Prog.lift (.waitDma2 sS1 src1 dst1 hsrc1 hdst1)
          kk) else kk) Q) := by
  subst hs0 hs1 hS0 hD0 hS1 hD1
  by_cases h : C
  · rw [dif_pos h]
    obtain rfl := hC.mp h
    unfold credB posB sentB
    rw [if_pos rfl, if_pos rfl, if_pos rfl]
    iintro ⟨#HI, ⟨Hc0, Hc1⟩, ⟨Hp0, Hp1⟩, HO⟩ Hk
    iapply (wait_one kv K c (sendS 0 t) (slotM 0 c) (stgM 0) (stg_credit 0) (expect_send kv 0 hst)) $$ [Hc0 Hp0 HO]
    · isplitr; · iapply (inv_send kv K 0 c t); iexact HI
      isplitl [Hc0]; · iexact Hc0
      isplitl [Hp0]; · iexact Hp0
      iexact HO
    iintro ⟨HO, Hv0, Hs0⟩
    iapply (wait_one kv K c (sendS 1 t) (slotM 1 c) (stgM 1) (stg_credit 1) (expect_send kv 1 hst)) $$ [Hc1 Hp1 HO]
    · isplitr; · iapply (inv_send kv K 1 c t); iexact HI
      isplitl [Hc1]; · iexact Hc1
      isplitl [Hp1]; · iexact Hp1
      iexact HO
    iintro ⟨HO, Hv1, Hs1⟩
    iapply Hk
    isplitr [HO]
    · isplitl [Hv0 Hv1]; · isplitl [Hv0] <;> iassumption
      isplitl [Hs0]
      · iapply (Entails.of_eq (rest_send kv 0 hst)); iexact Hs0
      · iapply (Entails.of_eq (rest_send kv 1 hst)); iexact Hs1
    iexact HO
  · rw [dif_neg h]
    have h' : ¬ c = s := fun e => h (hC.mpr e)
    unfold credB posB sentB
    rw [if_neg h', if_neg h', if_neg h']
    iintro ⟨-, -, -, HO⟩ Hk
    iapply Hk
    isplitr; · iempintro
    iexact HO

/-- What device `c` waits for the landing of the copy of `s` with: when `s < c`, a credit and its position; else slot `s` itself. -/
def landB (j : Fin 2) (c s : Dev nD) : sProp 𝕄 :=
  if s < c then iprop(cred (tallyAt (recvCell j c s) () N) ∗ atPos ER (recvCell j c s) 0 ∅ 0) else slotAny j c s
/-- What it then holds: slot `s`, which reads as the codes of `s` when `s < c`. -/
def gotB (j : Fin 2) (c s : Dev nD) : sProp 𝕄 :=
  iprop((if s < c then semVal (recvCell j c s) 0 else iprop(emp))
    ∗ ∃ f, ⌜s < c → (slotM j s).view.read (Elt F) f = (stgM j).view.read (Elt F) (kv s j)⌝
      ∗ (slotM j s).view.loc (c : Thread nD τ) ↦[(slotM j s).view.set]{fullShare} f)

theorem land_step {α : Type} (j : Fin 2) (c s : Dev nD) {C : Prop} [Decidable C] (hC : C ↔ s < c)
    {hsrc : (stgM j).view.WordExact} {hdst : (slotM j s).view.WordExact}
    (kk : Prog (TpuEff nD τ sig (Elt F) Λ₀ .tc) α) (Q : α → sProp 𝕄) :
    iprop(invs kv K ∗ landB j c s ∗ Ow c 0) ⊢ iprop(((gotB kv j c s ∗ Ow c 0) -∗ WP c kk Q)
      -∗ WP c (if h : C then (do
          Prog.lift (.waitDma2 (recvS j s) (stgM j) (slotM j s) hsrc hdst)
          kk) else kk) Q) := by
  by_cases h : C
  · rw [dif_pos h]
    have h' := hC.mp h
    unfold landB gotB
    rw [if_pos h', if_pos h']
    iintro ⟨#HI, ⟨Hc0, Hp0⟩, HO⟩ Hk
    iapply (wait_one kv K c (recvS j s) (stgM j) (slotM j s) (slot_credit j s) (expect_recv kv j h')) $$ [Hc0 Hp0 HO]
    · isplitr; · iapply (inv_recv kv K j c s); iexact HI
      isplitl [Hc0]; · iexact Hc0
      isplitl [Hp0]; · iexact Hp0
      iexact HO
    iintro ⟨HO, Hv0, Hs0⟩
    iapply Hk
    isplitr [HO]
    · isplitl [Hv0]; · iexact Hv0
      ihave Hs := (Entails.of_eq ((rest_recv kv j h').trans (by unfold slotPts; rfl))) $$ Hs0
      icases Hs with ⟨%f, %hf, Hs⟩
      iexists f
      isplitr; · ipureintro; exact fun _ => hf
      iexact Hs
    iexact HO
  · rw [dif_neg h]
    have h' : ¬ s < c := fun e => h (hC.mpr e)
    unfold landB gotB slotAny
    rw [if_neg h', if_neg h']
    iintro ⟨-, ⟨%f, Hs⟩, HO⟩ Hk
    iapply Hk
    isplitr [HO]
    · isplitr; · iempintro
      iexists f
      isplitr; · ipureintro; exact fun e => absurd e h'
      iexact Hs
    iexact HO

end Cert.KernelIdeal.Attn
-- ==== Proof.Body.lean ====
/-
# The kernel's body on a device

The body is run once for a device `c` not chosen, over any interpretation of the floats.
-/
module

public import proofs.«01_k».proof.Proof.Steps

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- The assertions about this program's machine. -/
abbrev Pr (F : FTy → Type) : Type := sProp (MT nD τ sig Unit (Elt F) ℕ UU ℕ)

/-! ## Single steps as entailments -/

section Run

variable {α β : Type}

theorem run_ret {c : Dev nD} {R : sProp 𝕄} {Q : α → sProp 𝕄} {a : α} (h : R ⊢ Q a) : R ⊢ WP c (pure a) Q := by
  refine h.trans ?_
  have h' : Q a ⊢ iprop(|={Set.univ}=> Q a) := by
    iintro H; imodintro; iexact H
  exact h'

theorem run_bind {c : Dev nD} {R : sProp 𝕄} {Q : α → sProp 𝕄} {p : Prog (TpuEff nD τ sig (Elt F) Λ₀ .tc) β} {k : β → Prog (TpuEff nD τ sig (Elt F) Λ₀ .tc) α}
    (h : R ⊢ WP c p (fun a => WP c (k a) Q)) : R ⊢ WP c (p >>= k) Q := by
  exact h.trans (Entails.of_eq (wp_bind _ _ _ p k Q).symm)

theorem run_device {c : Dev nD} {R : sProp 𝕄} {Q : α → sProp 𝕄} {k : Dev nD → Prog (TpuEff nD τ sig (Elt F) Λ₀ .tc) α} (h : R ⊢ WP c (k c) Q) :
    R ⊢ WP c (Prog.lift .deviceId >>= k) Q := by
  refine h.trans (Entails.of_eq ?_)
  exact (wp_deviceId 𝒱₀ (c : Thread nD τ) none Set.univ (k := k)).symm

/-- `R` holds `P`, and is whole again when `P` comes back. -/
def Acc (R P : sProp 𝕄) : Prop := R ⊢ iprop(P ∗ (P -∗ R))

theorem Acc.refl (R : sProp 𝕄) : Acc R R := by
  unfold Acc
  iintro H
  isplitl [H]; · iexact H
  iintro H; iexact H

theorem Acc.trans {R P P' : sProp 𝕄} (h : Acc R P) (h' : Acc P P') : Acc R P' := by
  unfold Acc at *
  iintro H
  ihave H1 := h $$ H
  icases H1 with ⟨HP, Hb⟩
  ihave H2 := h' $$ HP
  icases H2 with ⟨HP', Hb'⟩
  isplitl [HP']; · iexact HP'
  iintro H
  iapply Hb
  iapply Hb'
  iexact H

theorem Acc.left (P P' : sProp 𝕄) : Acc iprop(P ∗ P') P := by
  unfold Acc
  iintro ⟨H, H'⟩
  isplitl [H]; · iexact H
  iintro H
  isplitl [H] <;> iassumption

theorem Acc.right (P P' : sProp 𝕄) : Acc iprop(P ∗ P') P' := by
  unfold Acc
  iintro ⟨H, H'⟩
  isplitl [H']; · iexact H'
  iintro H'
  isplitl [H] <;> iassumption

/-- A load from a buffer whose elements are held. -/
theorem run_load {c : Dev nD} {R : sProp 𝕄} {Q : α → sProp 𝕄} {s : Shape} {e : EltTy} {M : Memref sig .tc .vmem s e} {r : LoadRect s} {hl : M.view.LoadsAt r}
    {S : Finset (Idx (M.view.loc (c : Thread nD τ)))} {q : PosShare TreeShare} {f : Buf (Elt F) (M.view.loc (c : Thread nD τ))}
    (hS : M.view.setOn r.set ⊆ S) (hA : Acc R iprop(M.view.loc (c : Thread nD τ) ↦[S]{q} f))
    {k : (r.shape.Idx → Elt F e) → Prog (TpuEff nD τ sig (Elt F) Λ₀ .tc) α}
    (h : R ⊢ WP c (k (M.view.readAt (Elt F) r f)) Q) :
    R ⊢ WP c (Prog.lift (.load M r hl) >>= k) Q := by
  unfold Acc at hA
  iintro H
  ihave H1 := hA $$ H
  icases H1 with ⟨HP, Hb⟩
  iapply (wp_load (m := M) (r := r) (hl := hl) (f := f) (k := k) 𝒱₀ (c : Thread nD τ) none Set.univ hS) $$ HP
  iintro HP
  iapply h
  iapply Hb
  iexact HP

end Run

/-! ## What the body holds -/

/-- The contents of the buffers a device's copies do not touch: activations, the two projections. -/
structure Ins (F : FTy → Type) where
  x : (cc0_stg0_0 : Ref sig .tc).ty.Contents (Elt F)
  wq : (cc0_stg1_0 : Ref sig .tc).ty.Contents (Elt F)
  wo : (cc0_stg4_0 : Ref sig .tc).ty.Contents (Elt F)

abbrev xM : Memref sig .tc .vmem S2x256x512 .f32 := Memref.whole cc0_stg0_0
abbrev wqM : Memref sig .tc .vmem S512x256 .bf16 := Memref.whole cc0_stg1_0
abbrev woM : Memref sig .tc .vmem S256x512 .bf16 := Memref.whole cc0_stg4_0
abbrev outM : Memref sig .tc .vmem S2x256x512 .f32 := Memref.whole cc0_stg5_0

/-- A whole buffer of device `c` at contents `f`. -/
def whole {s : Shape} {e : EltTy} (M : Memref sig .tc .vmem s e) (c : Dev nD) (f : Buf (Elt F) (M.view.loc (c : Thread nD τ))) : sProp 𝕄 :=
  iprop(M.view.loc (c : Thread nD τ) ↦[M.view.set]{fullShare} f)

/-- Slot `s` of device `c` at contents `f`, beside what its wait left. -/
def slotAt (j : Fin 2) (c s : Dev nD) (f : Buf (Elt F) ((slotM j s).view.loc (c : Thread nD τ))) : sProp 𝕄 :=
  iprop((if s < c then semVal (recvCell j c s) 0 else iprop(emp)) ∗ (slotM j s).view.loc (c : Thread nD τ) ↦[(slotM j s).view.set]{fullShare} f)

variable (kv : Dev nD → Codes F) (K : GSem nD τ sig → ℕ)

/-- What the body holds after its wait for the others: what stays put, and thirteen pieces that change — the six slots in the
    order of their waits (0 to 5), the result buffer (6), and what belongs to the six pairs of copies (7 to 12). -/
def Frm (c : Dev nD) (O : CellTallies nD τ sig Unit) (X : sProp 𝕄) (i : Ins F) (A : Fin 13 → sProp 𝕄) : sProp 𝕄 :=
  iprop((invs kv K ∗ Ow c O ∗ X ∗ whole xM c i.x ∗ whole wqM c i.wq ∗ whole woM c i.wo ∗ stgPts kv 0 c 0 ∗ stgPts kv 1 c 0)
    ∗ bigSep Finset.univ A)

section Frm

variable {kv K} {c : Dev nD} {O : CellTallies nD τ sig Unit} {X : Pr F} {i : Ins F} {A : Fin 13 → Pr F}

theorem acc_x : Acc (Frm kv K c O X i A) (whole xM c i.x) :=
  (Acc.left _ _).trans ((Acc.right _ _).trans ((Acc.right _ _).trans ((Acc.right _ _).trans (Acc.left _ _))))
theorem acc_wq : Acc (Frm kv K c O X i A) (whole wqM c i.wq) :=
  (Acc.left _ _).trans ((Acc.right _ _).trans ((Acc.right _ _).trans ((Acc.right _ _).trans ((Acc.right _ _).trans (Acc.left _ _)))))
theorem acc_wo : Acc (Frm kv K c O X i A) (whole woM c i.wo) :=
  (Acc.left _ _).trans ((Acc.right _ _).trans ((Acc.right _ _).trans ((Acc.right _ _).trans ((Acc.right _ _).trans ((Acc.right _ _).trans
    (Acc.left _ _))))))
theorem acc_k : Acc (Frm kv K c O X i A) (stgPts kv 0 c 0) :=
  (Acc.left _ _).trans ((Acc.right _ _).trans ((Acc.right _ _).trans ((Acc.right _ _).trans ((Acc.right _ _).trans ((Acc.right _ _).trans
    ((Acc.right _ _).trans (Acc.left _ _)))))))
theorem acc_v : Acc (Frm kv K c O X i A) (stgPts kv 1 c 0) :=
  (Acc.left _ _).trans ((Acc.right _ _).trans ((Acc.right _ _).trans ((Acc.right _ _).trans ((Acc.right _ _).trans ((Acc.right _ _).trans
    ((Acc.right _ _).trans (Acc.right _ _)))))))

theorem Frm.split (n : Fin 13) (P : sProp 𝕄) : Frm kv K c O X i (Function.update A n P)
    = iprop((invs kv K ∗ Ow c O ∗ X ∗ whole xM c i.x ∗ whole wqM c i.wq ∗ whole woM c i.wo ∗ stgPts kv 0 c 0 ∗ stgPts kv 1 c 0)
      ∗ P ∗ bigSep (Finset.univ.erase n) A) := by
  unfold Frm
  rw [bigSep_erase (Finset.mem_univ n), Function.update_self]
  rw [show bigSep (Finset.univ.erase n) (Function.update A n P) = bigSep (Finset.univ.erase n) A from
    bigSep_congr fun k hk => Function.update_of_ne (Finset.ne_of_mem_erase hk) P A]
  rfl

theorem acc_piece (n : Fin 13) {P : sProp 𝕄} (h : A n = P) : Acc (Frm kv K c O X i A) P := by
  subst h
  have e := Frm.split (kv := kv) (K := K) (c := c) (O := O) (X := X) (i := i) (A := A) n (A n)
  rw [Function.update_eq_self] at e
  rw [e]
  exact (Acc.right _ _).trans (Acc.left _ _)

theorem take_piece (n : Fin 13) {P : sProp 𝕄} (h : A n = P) : Frm kv K c O X i A
    = iprop((invs kv K ∗ Ow c O ∗ X ∗ whole xM c i.x ∗ whole wqM c i.wq ∗ whole woM c i.wo ∗ stgPts kv 0 c 0 ∗ stgPts kv 1 c 0)
      ∗ P ∗ bigSep (Finset.univ.erase n) A) := by
  subst h
  have e := Frm.split (kv := kv) (K := K) (c := c) (O := O) (X := X) (i := i) (A := A) n (A n)
  rw [Function.update_eq_self] at e
  exact e

end Frm

/-! ## The elements a load reads -/

theorem slot_set (j : Fin 2) (s : Dev nD) : (slotM j s).view.set
    = (allM j).view.setOn (Rect.unit (s := S4x2x4x64x256) ![s.val, 0, 0, 0, 0] S1x2x4x64x256.size (inbSlot s)).set := by
  rw [Memref.set_view_squeeze]
  exact View.set_slice _ _

theorem slot_sub (j : Fin 2) (s : Dev nD) (b h : ℕ) (hb : ∀ a, (![s.val, b, h, 0, 0] : Fin 5 → ℕ) a + S1x1x1x64x256.size a ≤ S4x2x4x64x256.size a) :
    (allM j).view.setOn (Rect.unit (s := S4x2x4x64x256) ![s.val, b, h, 0, 0] S1x1x1x64x256.size hb).toLoadRect.set ⊆ (slotM j s).view.set := by
  rw [slot_set]
  refine Finset.map_subset_map.mpr fun i hi => ?_
  have hi' := Rect.mem_set_unit.mp hi
  refine Rect.mem_set_unit.mpr fun a => ?_
  have h0 := hi' 0
  have hlt := (i a).isLt
  fin_cases a
  · exact h0
  all_goals exact ⟨Nat.zero_le _, by simpa using hlt⟩

theorem sub_set {s : Shape} {e : EltTy} (M : Memref sig .tc .vmem s e) (r : LoadRect s) : M.view.setOn r.set ⊆ M.view.set :=
  Finset.map_subset_map.mpr (Finset.subset_univ _)

theorem dup_open {c : Dev nD} {X : Pr F} (hX : X ⊢ openAll c) : X ⊢ iprop(openAll c ∗ X) := by
  have h : X ⊢ iprop(openAll c ∧ X) := BI.Laws.and_intro hX (BI.Entails.refl _)
  refine h.trans ?_
  iintro ⟨#H, HX⟩
  isplitr; · iexact H
  iexact HX

section Loads

variable {kv K} {α : Type} {c : Dev nD} {O : CellTallies nD τ sig Unit} {X : Pr F} {i : Ins F} {A : Fin 13 → Pr F}

theorem load_x {Q : α → sProp 𝕄} {r : LoadRect S2x256x512} {hl : (Memref.whole cc0_stg0_0 : Memref sig .tc .vmem S2x256x512 .f32).view.LoadsAt r}
    {k : (r.shape.Idx → Elt F .f32) → Prog (TpuEff nD τ sig (Elt F) Λ₀ .tc) α}
    (h : Frm kv K c O X i A ⊢ WP c (k ((Memref.whole cc0_stg0_0 : Memref sig .tc .vmem S2x256x512 .f32).view.readAt (Elt F) r i.x)) Q) :
    Frm kv K c O X i A ⊢ WP c (Prog.lift (.load (Memref.whole cc0_stg0_0 : Memref sig .tc .vmem S2x256x512 .f32) r hl) >>= k) Q :=
  run_load (M := xM) (f := i.x) (S := xM.view.set) (q := fullShare) (sub_set xM r) acc_x h
theorem load_wq {Q : α → sProp 𝕄} {r : LoadRect S512x256} {hl : (Memref.whole cc0_stg1_0 : Memref sig .tc .vmem S512x256 .bf16).view.LoadsAt r}
    {k : (r.shape.Idx → Elt F .bf16) → Prog (TpuEff nD τ sig (Elt F) Λ₀ .tc) α}
    (h : Frm kv K c O X i A ⊢ WP c (k ((Memref.whole cc0_stg1_0 : Memref sig .tc .vmem S512x256 .bf16).view.readAt (Elt F) r i.wq)) Q) :
    Frm kv K c O X i A ⊢ WP c (Prog.lift (.load (Memref.whole cc0_stg1_0 : Memref sig .tc .vmem S512x256 .bf16) r hl) >>= k) Q :=
  run_load (M := wqM) (f := i.wq) (S := wqM.view.set) (q := fullShare) (sub_set wqM r) acc_wq h
theorem load_wo {Q : α → sProp 𝕄} {r : LoadRect S256x512} {hl : (Memref.whole cc0_stg4_0 : Memref sig .tc .vmem S256x512 .bf16).view.LoadsAt r}
    {k : (r.shape.Idx → Elt F .bf16) → Prog (TpuEff nD τ sig (Elt F) Λ₀ .tc) α}
    (h : Frm kv K c O X i A ⊢ WP c (k ((Memref.whole cc0_stg4_0 : Memref sig .tc .vmem S256x512 .bf16).view.readAt (Elt F) r i.wo)) Q) :
    Frm kv K c O X i A ⊢ WP c (Prog.lift (.load (Memref.whole cc0_stg4_0 : Memref sig .tc .vmem S256x512 .bf16) r hl) >>= k) Q :=
  run_load (M := woM) (f := i.wo) (S := woM.view.set) (q := fullShare) (sub_set woM r) acc_wo h
theorem load_k {Q : α → sProp 𝕄} {r : LoadRect S2x4x64x256} {hl : (Memref.whole cc0_stg2_0 : Memref sig .tc .vmem S2x4x64x256 .i8).view.LoadsAt r}
    {k : (r.shape.Idx → Elt F .i8) → Prog (TpuEff nD τ sig (Elt F) Λ₀ .tc) α}
    (h : Frm kv K c O X i A ⊢ WP c (k ((Memref.whole cc0_stg2_0 : Memref sig .tc .vmem S2x4x64x256 .i8).view.readAt (Elt F) r (kv c 0))) Q) :
    Frm kv K c O X i A ⊢ WP c (Prog.lift (.load (Memref.whole cc0_stg2_0 : Memref sig .tc .vmem S2x4x64x256 .i8) r hl) >>= k) Q :=
  run_load (M := stgM 0) (f := kv c 0) (S := (stgM 0).view.set) (q := sh 0) (sub_set (stgM 0) r) acc_k h
theorem load_v {Q : α → sProp 𝕄} {r : LoadRect S2x4x64x256} {hl : (Memref.whole cc0_stg3_0 : Memref sig .tc .vmem S2x4x64x256 .i8).view.LoadsAt r}
    {k : (r.shape.Idx → Elt F .i8) → Prog (TpuEff nD τ sig (Elt F) Λ₀ .tc) α}
    (h : Frm kv K c O X i A ⊢ WP c (k ((Memref.whole cc0_stg3_0 : Memref sig .tc .vmem S2x4x64x256 .i8).view.readAt (Elt F) r (kv c 1))) Q) :
    Frm kv K c O X i A ⊢ WP c (Prog.lift (.load (Memref.whole cc0_stg3_0 : Memref sig .tc .vmem S2x4x64x256 .i8) r hl) >>= k) Q :=
  run_load (M := stgM 1) (f := kv c 1) (S := (stgM 1).view.set) (q := sh 0) (sub_set (stgM 1) r) acc_v h

/-- A load of one head's keys from a slot that has been waited for. -/
theorem load_slotK (n : Fin 13) (s : Dev nD) {f : Buf (Elt F) ((slotM 0 s).view.loc (c : Thread nD τ))} (hA : A n = slotAt 0 c s f)
    {r : LoadRect S4x2x4x64x256} (hr : (Memref.whole cc0_scratch0 : Memref sig .tc .vmem S4x2x4x64x256 .i8).view.setOn r.set ⊆ (slotM 0 s).view.set) {hl : (Memref.whole cc0_scratch0 : Memref sig .tc .vmem S4x2x4x64x256 .i8).view.LoadsAt r}
    {Q : α → sProp 𝕄} {k : (r.shape.Idx → Elt F .i8) → Prog (TpuEff nD τ sig (Elt F) Λ₀ .tc) α}
    (h : Frm kv K c O X i A ⊢ WP c (k ((Memref.whole cc0_scratch0 : Memref sig .tc .vmem S4x2x4x64x256 .i8).view.readAt (Elt F) r f)) Q) :
    Frm kv K c O X i A ⊢ WP c (Prog.lift (.load (Memref.whole cc0_scratch0 : Memref sig .tc .vmem S4x2x4x64x256 .i8) r hl) >>= k) Q :=
  run_load (M := allM 0) (f := f) (S := (slotM 0 s).view.set) (q := fullShare) hr ((acc_piece n hA).trans (Acc.right _ _)) h

/-- A load of one head's values from a slot that has been waited for. -/
theorem load_slotV (n : Fin 13) (s : Dev nD) {f : Buf (Elt F) ((slotM 1 s).view.loc (c : Thread nD τ))} (hA : A n = slotAt 1 c s f)
    {r : LoadRect S4x2x4x64x256} (hr : (Memref.whole cc0_scratch1 : Memref sig .tc .vmem S4x2x4x64x256 .i8).view.setOn r.set ⊆ (slotM 1 s).view.set) {hl : (Memref.whole cc0_scratch1 : Memref sig .tc .vmem S4x2x4x64x256 .i8).view.LoadsAt r}
    {Q : α → sProp 𝕄} {k : (r.shape.Idx → Elt F .i8) → Prog (TpuEff nD τ sig (Elt F) Λ₀ .tc) α}
    (h : Frm kv K c O X i A ⊢ WP c (k ((Memref.whole cc0_scratch1 : Memref sig .tc .vmem S4x2x4x64x256 .i8).view.readAt (Elt F) r f)) Q) :
    Frm kv K c O X i A ⊢ WP c (Prog.lift (.load (Memref.whole cc0_scratch1 : Memref sig .tc .vmem S4x2x4x64x256 .i8) r hl) >>= k) Q :=
  run_load (M := allM 1) (f := f) (S := (slotM 1 s).view.set) (q := fullShare) hr ((acc_piece n hA).trans (Acc.right _ _)) h

/-- Two copies leave. -/
theorem run_send (n : Fin 13) (s t : Dev nD) (hX : X ⊢ openAll c) (hA : A n = iprop(sendB kv c s t ∗ posB c s t)) (hst : s < t) {C : Prop} [Decidable C]
    (hC : C ↔ c = s) {dev dev' : C → Dev nD} (hdev : ∀ h, dev h = t) (hdev' : ∀ h, dev' h = t)
    {sS0 rS0 sS1 rS1 : DmaSem sig} (hs0 : sS0 = sendS 0 t) (hr0 : rS0 = recvS 0 s) (hs1 : sS1 = sendS 1 t) (hr1 : rS1 = recvS 1 s)
    {src0 dst0 src1 dst1 : Memref sig .tc .vmem S2x4x64x256 .i8} (hS0 : src0 = stgM 0) (hD0 : dst0 = slotM 0 s) (hS1 : src1 = stgM 1) (hD1 : dst1 = slotM 1 s)
    {hsrc0 : src0.view.WordExact} {hdst0 : dst0.view.WordExact} {hsc0 : C → dst0.view.ref.isScScratch = false}
    {hsem0 : ∀ h, DmaTarget.Typed .vmem (.dma rS0) (.remote (Dev.tc (dev h) : Thread nD τ) dst0 (.dma sS0) (hsc0 h))}
    {hsrc1 : src1.view.WordExact} {hdst1 : dst1.view.WordExact} {hsc1 : C → dst1.view.ref.isScScratch = false}
    {hsem1 : ∀ h, DmaTarget.Typed .vmem (.dma rS1) (.remote (Dev.tc (dev' h) : Thread nD τ) dst1 (.dma sS1) (hsc1 h))}
    {kk : Prog (TpuEff nD τ sig (Elt F) Λ₀ .tc) α} {Q : α → sProp 𝕄}
    (h : Frm kv K c O X i (Function.update A n (iprop(credB c s t ∗ posB c s t))) ⊢ WP c kk Q) :
    Frm kv K c (O + os c s t) X i A ⊢ WP c (if h : C then (do
          Prog.lift (.enqueueDma src0 (.remote (Dev.tc (dev h) : Thread nD τ) dst0 (.dma sS0) (hsc0 h)) (.dma rS0) hsrc0 hdst0 (hsem0 h))
          Prog.lift (.enqueueDma src1 (.remote (Dev.tc (dev' h) : Thread nD τ) dst1 (.dma sS1) (hsc1 h)) (.dma rS1) hsrc1 hdst1 (hsem1 h))
          kk) else kk) Q := by
  rw [take_piece (O := O + os c s t) n hA]
  iintro ⟨⟨#HI, HO, HX, Hr⟩, ⟨HP, Hq⟩, HZ⟩
  ihave ⟨#HA, HX⟩ := (dup_open hX) $$ HX
  iapply (send_step kv K c hst hC hdev hdev' O hs0 hr0 hs1 hr1 hS0 hD0 hS1 hD1) $$ [HO HP]
  · isplitr; · iexact HI
    isplitr; · iexact HA
    isplitl [HP]; · iexact HP
    iexact HO
  iintro ⟨Hc, HO⟩
  iapply h
  rw [Frm.split]
  isplitl [HO HX Hr]
  · isplitr; · iexact HI
    isplitl [HO]; · iexact HO
    isplitl [HX]; · iexact HX
    iexact Hr
  isplitr [HZ]
  · isplitl [Hc] <;> iassumption
  iexact HZ

/-- Two copies have left. -/
theorem run_sent (n : Fin 13) (s t : Dev nD) (hA : A n = iprop(credB c s t ∗ posB c s t)) (hst : s < t) {C : Prop} [Decidable C]
    (hC : C ↔ c = s) {sS0 sS1 : DmaSem sig} (hs0 : sS0 = sendS 0 t) (hs1 : sS1 = sendS 1 t)
    {src0 dst0 src1 dst1 : Memref sig .tc .vmem S2x4x64x256 .i8} (hS0 : src0 = slotM 0 s) (hD0 : dst0 = stgM 0) (hS1 : src1 = slotM 1 s) (hD1 : dst1 = stgM 1)
    {hsrc0 : src0.view.WordExact} {hdst0 : dst0.view.WordExact} {hsrc1 : src1.view.WordExact} {hdst1 : dst1.view.WordExact}
    {kk : Prog (TpuEff nD τ sig (Elt F) Λ₀ .tc) α} {Q : α → sProp 𝕄}
    (h : Frm kv K c 0 X i (Function.update A n (sentB kv c s t)) ⊢ WP c kk Q) :
    Frm kv K c 0 X i A ⊢ WP c (if h : C then (do
          Prog.lift (.waitDma2 sS0 src0 dst0 hsrc0 hdst0)
          Prog.lift (.waitDma2 sS1 src1 dst1 hsrc1 hdst1)
          kk) else kk) Q := by
  rw [take_piece (O := 0) n hA]
  iintro ⟨⟨#HI, HO, HX⟩, ⟨HP, Hq⟩, HZ⟩
  iapply (sent_step kv K c hst hC hs0 hs1 hS0 hD0 hS1 hD1) $$ [HO HP Hq]
  · isplitr; · iexact HI
    isplitl [HP]; · iexact HP
    isplitl [Hq]; · iexact Hq
    iexact HO
  iintro ⟨Hc, HO⟩
  iapply h
  rw [Frm.split]
  isplitl [HO HX]
  · isplitr; · iexact HI
    isplitl [HO]; · iexact HO
    iexact HX
  isplitl [Hc]; · iexact Hc
  iexact HZ

/-- The landing of a copy. -/
theorem run_land (n : Fin 13) (j : Fin 2) (s : Dev nD) (hA : A n = landB j c s) {C : Prop} [Decidable C] (hC : C ↔ s < c)
    {sem : DmaSem sig} {src dst : Memref sig .tc .vmem S2x4x64x256 .i8} {hsrc : src.view.WordExact} {hdst : dst.view.WordExact}
    (hsem : sem = recvS j s) (hsrc' : src = stgM j) (hdst' : dst = slotM j s)
    {kk : Prog (TpuEff nD τ sig (Elt F) Λ₀ .tc) α} {Q : α → sProp 𝕄}
    (h : ∀ f, (s < c → (slotM j s).view.read (Elt F) f = (stgM j).view.read (Elt F) (kv s j)) →
      Frm kv K c 0 X i (Function.update A n (slotAt j c s f)) ⊢ WP c kk Q) :
    Frm kv K c 0 X i A ⊢ WP c (if h : C then (do
          Prog.lift (.waitDma2 sem src dst hsrc hdst)
          kk) else kk) Q := by
  subst hsem hsrc' hdst'
  rw [take_piece (O := 0) n hA]
  iintro ⟨⟨#HI, HO, HX⟩, HP, HZ⟩
  iapply (land_step kv K j c s hC) $$ [HO HP]
  · isplitr; · iexact HI
    isplitl [HP]; · iexact HP
    iexact HO
  iintro ⟨Hg, HO⟩
  unfold gotB
  icases Hg with ⟨Hv, ⟨%f, %hf, Hs⟩⟩
  iapply (h f hf)
  rw [Frm.split]
  isplitl [HO HX]
  · isplitr; · iexact HI
    isplitl [HO]; · iexact HO
    iexact HX
  isplitr [HZ]
  · unfold slotAt
    isplitl [Hv] <;> iassumption
  iexact HZ

/-- A store to the result buffer, and the reads of it that precede. -/
theorem load_out {f : Buf (Elt F) (outM.view.loc (c : Thread nD τ))} (hA : A 6 = whole outM c f)
    {Q : α → sProp 𝕄} {r : LoadRect S2x256x512} {hl : (Memref.whole cc0_stg5_0 : Memref sig .tc .vmem S2x256x512 .f32).view.LoadsAt r}
    {k : (r.shape.Idx → Elt F .f32) → Prog (TpuEff nD τ sig (Elt F) Λ₀ .tc) α}
    (h : Frm kv K c O X i A ⊢ WP c (k ((Memref.whole cc0_stg5_0 : Memref sig .tc .vmem S2x256x512 .f32).view.readAt (Elt F) r f)) Q) :
    Frm kv K c O X i A ⊢ WP c (Prog.lift (.load (Memref.whole cc0_stg5_0 : Memref sig .tc .vmem S2x256x512 .f32) r hl) >>= k) Q :=
  run_load (M := outM) (f := f) (S := outM.view.set) (q := fullShare) (sub_set outM r) (acc_piece 6 hA) h

theorem store_out {f : Buf (Elt F) (outM.view.loc (c : Thread nD τ))} (hA : A 6 = whole outM c f)
    {Q : α → sProp 𝕄} {r : Rect S2x256x512} {w : r.shape.Idx → Elt F .f32} {Mk : Finset r.shape.Idx} {hx : ((Memref.whole cc0_stg5_0 : Memref sig .tc .vmem S2x256x512 .f32).access r).Stores Mk}
    {hm : Mk = Finset.univ ∨ ∀ a, r.stride a = 1}
    {k : PUnit → Prog (TpuEff nD τ sig (Elt F) Λ₀ .tc) α}
    (h : Frm kv K c O X i (Function.update A 6 (whole outM c ((outM.access r).write (Elt F) f w Mk))) ⊢ WP c (k ⟨⟩) Q) :
    Frm kv K c O X i A ⊢ WP c (Prog.lift (.store (Memref.whole cc0_stg5_0 : Memref sig .tc .vmem S2x256x512 .f32) r w Mk hx hm) >>= k) Q := by
  rw [take_piece 6 hA]
  iintro ⟨HB, HP, HZ⟩
  unfold whole
  iapply (wp_store (m := outM) (r := r) (w := w) (Mk := Mk) (hx := hx) (hm := hm) (f := f) (S := outM.view.set) (k := k) 𝒱₀ (c : Thread nD τ) none Set.univ
    (by rw [View.set_whole]; exact Finset.subset_univ _)) $$ HP
  iintro HP
  iapply h
  rw [Frm.split]
  isplitl [HB]; · iexact HB
  isplitl [HP]
  · unfold whole; iexact HP
  iexact HZ

end Loads

end Cert.KernelIdeal.Attn
-- ==== Proof.Ready.lean ====
/-
# From the ready signals to the first copy

What a device holds when its body starts, and the four signals and one wait that come before the copies.
-/
module

public import proofs.«01_k».proof.Proof.Body

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (kv : Dev nD → Codes F) (K : GSem nD τ sig → ℕ)

/-- What the sender `s` brings for its two copies to `t`: the duties, and the shares of the source. -/
def sendPre (c s t : Dev nD) : sProp 𝕄 :=
  if c = s then iprop((dutyTok ER (sendCell 0 s t) 0 s ∗ dutyTok ER (recvCell 0 t s) 0 s ∗ dutyTok ER (sendCell 1 s t) 0 s ∗ dutyTok ER (recvCell 1 t s) 0 s)
    ∗ (stgPts kv 0 s t ∗ stgPts kv 1 s t)) else iprop(emp)
/-- What the receiver `t` lends the sender `s` for them. -/
def lentB (c s t : Dev nD) : sProp 𝕄 :=
  if c = s then iprop((slotAny 0 t s ∗ slotAny 1 t s) ∗ reached ER (recvCell 0 t s) 0 ∗ reached ER (recvCell 1 t s) 0) else iprop(emp)

theorem sendB_of (c s t : Dev nD) : iprop(sendPre kv c s t ∗ lentB c s t) ⊢ sendB kv c s t := by
  unfold sendPre lentB sendB
  by_cases h : c = s
  · rw [if_pos h, if_pos h, if_pos h]
    iintro ⟨⟨Ht, Hs⟩, Hd, HR⟩
    isplitl [Ht]; · iexact Ht
    isplitl [Hs]; · iexact Hs
    isplitl [Hd]; · iexact Hd
    iexact HR
  · rw [if_neg h, if_neg h, if_neg h]
    iintro ⟨H, -⟩
    iexact H

/-- The thirteen pieces before the wait for the others, -/
def A₁ (c : Dev nD) (f : Buf (Elt F) (outM.view.loc (c : Thread nD τ))) : Fin 13 → sProp 𝕄
  | 0 => landB 0 c 2 | 1 => landB 1 c 2 | 2 => landB 0 c 0 | 3 => landB 1 c 0 | 4 => landB 0 c 1 | 5 => landB 1 c 1
  | 6 => whole outM c f
  | 7 => iprop(sendPre kv c 0 3 ∗ posB c 0 3) | 8 => iprop(sendPre kv c 0 2 ∗ posB c 0 2) | 9 => iprop(sendPre kv c 0 1 ∗ posB c 0 1)
  | 10 => iprop(sendPre kv c 1 3 ∗ posB c 1 3) | 11 => iprop(sendPre kv c 1 2 ∗ posB c 1 2) | 12 => iprop(sendPre kv c 2 3 ∗ posB c 2 3)
/-- and after it. -/
def A₀ (c : Dev nD) (f : Buf (Elt F) (outM.view.loc (c : Thread nD τ))) : Fin 13 → sProp 𝕄
  | 0 => landB 0 c 2 | 1 => landB 1 c 2 | 2 => landB 0 c 0 | 3 => landB 1 c 0 | 4 => landB 0 c 1 | 5 => landB 1 c 1
  | 6 => whole outM c f
  | 7 => iprop(sendB kv c 0 3 ∗ posB c 0 3) | 8 => iprop(sendB kv c 0 2 ∗ posB c 0 2) | 9 => iprop(sendB kv c 0 1 ∗ posB c 0 1)
  | 10 => iprop(sendB kv c 1 3 ∗ posB c 1 3) | 11 => iprop(sendB kv c 1 2 ∗ posB c 1 2) | 12 => iprop(sendB kv c 2 3 ∗ posB c 2 3)

theorem pieces (A : Fin 13 → sProp 𝕄) : bigSep Finset.univ A
    = iprop(A 0 ∗ A 1 ∗ A 2 ∗ A 3 ∗ A 4 ∗ A 5 ∗ A 6 ∗ A 7 ∗ A 8 ∗ A 9 ∗ A 10 ∗ A 11 ∗ A 12) :=
  bigSep_univ_eq_bigSepL [0, 1, 2, 3, 4, 5, 6, 7, 8, 9, 10, 11, 12] (by decide) (by decide) A

/-- What the three signals hand a device, by the copies it is for. -/
theorem bar_split (c : Dev nD) : bigSep (Finset.univ.erase c) (fun d => barPay (F := F) c d)
    ⊢ iprop(lentB c 0 3 ∗ lentB c 0 2 ∗ lentB c 0 1 ∗ lentB c 1 3 ∗ lentB c 1 2 ∗ lentB c 2 3) := by
  match c with
  | 0 =>
    rw [bigSep_eq_bigSepL_of_eq [1, 2, 3] (by decide) (by decide)]
    show iprop(barPay 0 1 ∗ barPay 0 2 ∗ barPay 0 3) ⊢ _
    unfold barPay lentB
    rw [if_pos (by decide), if_pos (by decide), if_pos (by decide), if_pos (by decide), if_pos (by decide), if_pos (by decide), if_neg (by decide), if_neg (by decide), if_neg (by decide)]
    iintro ⟨H1, H2, H3⟩
    isplitl [H3]; · iexact H3
    isplitl [H2]; · iexact H2
    isplitl [H1]; · iexact H1
    isplitr; · iempintro
    isplitr <;> iempintro
  | 1 =>
    rw [bigSep_eq_bigSepL_of_eq [0, 2, 3] (by decide) (by decide)]
    show iprop(barPay 1 0 ∗ barPay 1 2 ∗ barPay 1 3) ⊢ _
    unfold barPay lentB
    rw [if_neg (by decide), if_pos (by decide), if_pos (by decide), if_neg (by decide), if_neg (by decide), if_neg (by decide), if_pos (by decide), if_pos (by decide), if_neg (by decide)]
    iintro ⟨H1, H2, H3⟩
    isplitl [H1]; · iexact H1
    isplitr; · iempintro
    isplitr; · iempintro
    isplitl [H3]; · iexact H3
    isplitl [H2]; · iexact H2
    iempintro
  | 2 =>
    rw [bigSep_eq_bigSepL_of_eq [0, 1, 3] (by decide) (by decide)]
    show iprop(barPay 2 0 ∗ barPay 2 1 ∗ barPay 2 3) ⊢ _
    unfold barPay lentB
    rw [if_neg (by decide), if_neg (by decide), if_pos (by decide), if_neg (by decide), if_neg (by decide), if_neg (by decide), if_neg (by decide), if_neg (by decide), if_pos (by decide)]
    iintro ⟨H1, H2, H3⟩
    isplitl [H1]; · iexact H1
    isplitl [H2]; · iexact H2
    isplitr; · iempintro
    isplitr; · iempintro
    isplitr; · iempintro
    iexact H3
  | 3 =>
    rw [bigSep_eq_bigSepL_of_eq [0, 1, 2] (by decide) (by decide)]
    show iprop(barPay 3 0 ∗ barPay 3 1 ∗ barPay 3 2) ⊢ _
    unfold barPay lentB
    rw [if_neg (by decide), if_neg (by decide), if_neg (by decide), if_neg (by decide), if_neg (by decide), if_neg (by decide), if_neg (by decide), if_neg (by decide), if_neg (by decide)]
    iintro ⟨H1, H2, H3⟩
    isplitl [H1]; · iexact H1
    isplitl [H2]; · iexact H2
    isplitl [H3]; · iexact H3
    isplitr; · iempintro
    isplitr <;> iempintro

theorem lend (c : Dev nD) (f : Buf (Elt F) (outM.view.loc (c : Thread nD τ))) :
    iprop(bigSep Finset.univ (A₁ kv c f) ∗ bigSep (Finset.univ.erase c) (fun d => barPay (F := F) c d)) ⊢ bigSep Finset.univ (A₀ kv c f) := by
  rw [pieces, pieces]
  dsimp only [A₁, A₀]
  iintro ⟨⟨H0, H1, H2, H3, H4, H5, H6, ⟨H7, P7⟩, ⟨H8, P8⟩, ⟨H9, P9⟩, ⟨H10, P10⟩, ⟨H11, P11⟩, ⟨H12, P12⟩⟩, HB⟩
  ihave HB := (bar_split c) $$ HB
  icases HB with ⟨B7, B8, B9, B10, B11, B12⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7 P7 B7]
  · isplitr [P7]
    · iapply (sendB_of kv c 0 3)
      isplitl [H7] <;> iassumption
    iexact P7
  isplitl [H8 P8 B8]
  · isplitr [P8]
    · iapply (sendB_of kv c 0 2)
      isplitl [H8] <;> iassumption
    iexact P8
  isplitl [H9 P9 B9]
  · isplitr [P9]
    · iapply (sendB_of kv c 0 1)
      isplitl [H9] <;> iassumption
    iexact P9
  isplitl [H10 P10 B10]
  · isplitr [P10]
    · iapply (sendB_of kv c 1 3)
      isplitl [H10] <;> iassumption
    iexact P10
  isplitl [H11 P11 B11]
  · isplitr [P11]
    · iapply (sendB_of kv c 1 2)
      isplitl [H11] <;> iassumption
    iexact P11
  isplitr [P12]
  · iapply (sendB_of kv c 2 3)
    isplitl [H12] <;> iassumption
  iexact P12

/-- What device `c` holds when its body starts. -/
def Start (c : Dev nD) (i : Ins F) (f : Buf (Elt F) (outM.view.loc (c : Thread nD τ))) : sProp 𝕄 :=
  iprop(invs kv K ∗ openAll c ∗ openBar ∗ levAts L lv ∗ cred (tallyAt (barCell c) () 3) ∗ atPos ER (barCell c) 0 ∅ 0
    ∗ (sigB c 0 ∗ sigB c 1 ∗ sigB c 2 ∗ sigB c 3) ∗ Ow c (O₀ c)
    ∗ (whole xM c i.x ∗ whole wqM c i.wq ∗ whole woM c i.wo ∗ stgPts kv 0 c 0 ∗ stgPts kv 1 c 0) ∗ bigSep Finset.univ (A₁ kv c f))

/-- What is kept through the run: that the cells are open, and the barrier cell, closed. -/
def Keep (c : Dev nD) : sProp 𝕄 := iprop(openAll c ∗ semVal (barCell c) 0)
theorem keep_open (c : Dev nD) : Keep (F := F) c ⊢ openAll c := by
  unfold Keep
  iintro ⟨H, -⟩; iexact H

/-- The four signals and the wait for three. -/
theorem run_ready {α : Type} (c : Dev nD) (i : Ins F) (f : Buf (Elt F) (outM.view.loc (c : Thread nD τ)))
    {C0 C1 C2 C3 : Prop} [Decidable C0] [Decidable C1] [Decidable C2] [Decidable C3]
    (h0 : C0 ↔ (0 : Dev nD) ≠ c) (h1 : C1 ↔ (1 : Dev nD) ≠ c) (h2 : C2 ↔ (2 : Dev nD) ≠ c) (h3 : C3 ↔ (3 : Dev nD) ≠ c)
    {d0 : C0 → Dev nD} {d1 : C1 → Dev nD} {d2 : C2 → Dev nD} {d3 : C3 → Dev nD}
    (e0 : ∀ h, d0 h = 0) (e1 : ∀ h, d1 h = 1) (e2 : ∀ h, d2 h = 2) (e3 : ∀ h, d3 h = 3) {sem : Sem sig} (hsem : sem = barS)
    {kk : Prog (TpuEff nD τ sig (Elt F) Λ₀ .tc) α} {Q : α → sProp 𝕄}
    (h : Frm kv K c (OS c) (Keep c) i (A₀ kv c f) ⊢ WP c kk Q) :
    Start kv K c i f ⊢ WP c
      (have j3 : PUnit.{1} → Prog (TpuEff nD τ sig (Elt F) Λ₀ .tc) α := fun _ => (do semWaitWord sem 3#32; kk)
       have j2 : PUnit.{1} → Prog (TpuEff nD τ sig (Elt F) Λ₀ .tc) α := fun _ => if h : C3 then (do semSignalWord (d3 h) sem 1#32; j3 ⟨⟩) else j3 ⟨⟩
       have j1 : PUnit.{1} → Prog (TpuEff nD τ sig (Elt F) Λ₀ .tc) α := fun _ => if h : C2 then (do semSignalWord (d2 h) sem 1#32; j2 ⟨⟩) else j2 ⟨⟩
       have j0 : PUnit.{1} → Prog (TpuEff nD τ sig (Elt F) Λ₀ .tc) α := fun _ => if h : C1 then (do semSignalWord (d1 h) sem 1#32; j1 ⟨⟩) else j1 ⟨⟩
       if h : C0 then (do semSignalWord (d0 h) sem 1#32; j0 ⟨⟩) else j0 ⟨⟩) Q := by
  unfold Start O₀
  iintro ⟨#HI, #HA, #HR, #HL, Hc, Hp, ⟨S0, S1, S2, S3⟩, HO, HX, HZ⟩
  iapply (sig_step kv K c 0 h0 e0 hsem (OS c + ob c 3 + ob c 2 + ob c 1)) $$ [S0 HO]
  · isplitr; · iexact HI
    isplitr; · iexact HR
    isplitl [S0] <;> iassumption
  iintro HO
  iapply (sig_step kv K c 1 h1 e1 hsem (OS c + ob c 3 + ob c 2)) $$ [S1 HO]
  · isplitr; · iexact HI
    isplitr; · iexact HR
    isplitl [S1] <;> iassumption
  iintro HO
  iapply (sig_step kv K c 2 h2 e2 hsem (OS c + ob c 3)) $$ [S2 HO]
  · isplitr; · iexact HI
    isplitr; · iexact HR
    isplitl [S2] <;> iassumption
  iintro HO
  iapply (sig_step kv K c 3 h3 e3 hsem (OS c)) $$ [S3 HO]
  · isplitr; · iexact HI
    isplitr; · iexact HR
    isplitl [S3] <;> iassumption
  iintro HO
  iapply (bar_step kv K c hsem kk Q) $$ [Hc Hp HO]
  · isplitr; · iexact HI
    isplitr; · iexact HL
    isplitl [Hc]; · iexact Hc
    isplitl [Hp] <;> iassumption
  iintro ⟨HO, Hb, HB⟩
  iapply h
  unfold Frm Keep
  isplitr [HZ HB]
  · isplitr; · iexact HI
    isplitl [HO]; · iexact HO
    isplitl [Hb]; · isplitr [Hb] <;> iassumption
    iexact HX
  iapply (lend kv c f)
  isplitl [HZ] <;> iassumption

end Cert.KernelIdeal.Attn
-- ==== Proof.Out.lean ====
/-
# What a device's run leaves

The result of a device as a function of its inputs and of the codes it reads, stage by stage.
-/
module

public import proofs.«01_k».proof.Proof.Body
public import Idealize.ShloMosaic.Lib.ValueIdxCore
public import Idealize.ShloMosaic.Lib.Pipeline.Value

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (kv : Dev nD → Codes F) (K : GSem nD τ sig → ℕ)

/-- The place of device `c`, as the kernel computes it. -/
abbrev place (c : Dev nD) : BitVec 32 := Scalar.remsi (Scalar.divsi (Dev.word c) 1#32) 4#32
/-- Whether device `c` comes after `s`, as a mask word. -/
abbrev vis (c s : Dev nD) : BitVec 1 := Scalar.cmpi .sgt (place c) (BitVec.ofNat 32 s.val)

theorem vis_of_lt : ∀ {c s : Dev nD}, s < c → vis c s = 1#1 := by decide
theorem vis_of_not_lt : ∀ {c s : Dev nD}, ¬ s < c → vis c s = 0#1 := by decide

theorem inbX (b : Fin 2) : ∀ a, (![b.val, 0, 0] : Fin 3 → ℕ) a + S1x256x512.size a ≤ S2x256x512.size a := by revert b; decide
theorem inbOwn (b : Fin 2) (h : Fin 4) : ∀ a, (![b.val, h.val, 0, 0] : Fin 4 → ℕ) a + S1x1x64x256.size a ≤ S2x4x64x256.size a := by revert b h; decide
theorem inbAll (s : Dev nD) (b : Fin 2) (h : Fin 4) : ∀ a, (![s.val, b.val, h.val, 0, 0] : Fin 5 → ℕ) a + S1x1x1x64x256.size a ≤ S4x2x4x64x256.size a := by
  revert s b h; decide

/-- One batch's activations, the projections, one head's own codes, one head's codes in a slot: what the loads read. -/
def xOf (i : Ins F) (b : Fin 2) : Vec F S1x256x512 .f32 :=
  xM.view.readAt (Elt F) (Rect.unit (s := S2x256x512) ![b.val, 0, 0] S1x256x512.size (inbX b)).toLoadRect i.x
def wqOf (i : Ins F) : Vec F S512x256 .bf16 := wqM.view.readAt (Elt F) (Rect.unit (s := S512x256) ![0, 0] S512x256.size inb_S512x256_S512x256_0_0).toLoadRect i.wq
def woOf (i : Ins F) : Vec F S256x512 .bf16 := woM.view.readAt (Elt F) (Rect.unit (s := S256x512) ![0, 0] S256x512.size inb_S256x512_S256x512_0_0).toLoadRect i.wo
def ownOf (j : Fin 2) (f : (stgM j).view.ty.Contents (Elt F)) (b : Fin 2) (h : Fin 4) : Vec F S1x1x64x256 .i8 :=
  (stgM j).view.readAt (Elt F) (Rect.unit (s := S2x4x64x256) ![b.val, h.val, 0, 0] S1x1x64x256.size (inbOwn b h)).toLoadRect f
def slotOf (j : Fin 2) (s : Dev nD) (f : (allM j).view.ty.Contents (Elt F)) (b : Fin 2) (h : Fin 4) : Vec F S1x1x1x64x256 .i8 :=
  (allM j).view.readAt (Elt F) (Rect.unit (s := S4x2x4x64x256) ![s.val, b.val, h.val, 0, 0] S1x1x1x64x256.size (inbAll s b h)).toLoadRect f

/-- The columns of head `h` of a batch's projected activations. -/
def qOf (Q : FVec F S256x256 .bf16) : Fin 4 → FVec F S256x64 .bf16
  | 0 => extractStridedSlice S256x64 ![0, 0] Q slices_S256x256_o0_0_S256x64
  | 1 => extractStridedSlice S256x64 ![0, 64] Q slices_S256x256_o0_64_S256x64
  | 2 => extractStridedSlice S256x64 ![0, 128] Q slices_S256x256_o0_128_S256x64
  | 3 => extractStridedSlice S256x64 ![0, 192] Q slices_S256x256_o0_192_S256x64

/-- A head's denominators after its own rows and the stages 2, 0, 1, -/
def lOf (v : Dev nD → BitVec 1) (q : FVec F S256x64 .bf16) (ko : Vec F S1x1x64x256 .i8) (k : Dev nD → Vec F S1x1x1x64x256 .i8) : FVec F S256x1 .f32 :=
  k0_pay106 (k0_pay106 (k0_pay106 (k0_pay53 q ko) (v 2) q (k 2)) (v 0) q (k 0)) (v 1) q (k 1)
/-- and its numerators. -/
def aOf (v : Dev nD → BitVec 1) (q : FVec F S256x64 .bf16) (ko vo : Vec F S1x1x64x256 .i8) (k w : Dev nD → Vec F S1x1x1x64x256 .i8) : FVec F S256x64 .f32 :=
  k0_pay114 (k0_pay114 (k0_pay114 (k0_pay54 q ko vo) (v 2) (k0_pay107 (v 2) q (k 2)) (w 2)) (v 0) (k0_pay107 (v 0) q (k 0)) (w 0)) (v 1) (k0_pay107 (v 1) q (k 1)) (w 1)

/-- The codes read from the slots, by array, sender, batch and head. -/
abbrev Read (F : FTy → Type) : Type := (j : Fin 2) → (s : Dev nD) → (b : Fin 2) → (h : Fin 4) → Vec F S1x1x1x64x256 .i8

/-- One batch of the result of device `c`. -/
def rowOf (c : Dev nD) (i : Ins F) (own : Codes F) (r : Read F) (b : Fin 2) : FVec F S1x256x512 .f32 :=
  k0_pay190 (k0_pay189
    (lOf (vis c) (qOf (k0_pay1 (xOf i b) (wqOf i)) 0) (ownOf 0 (own 0) b 0) (fun s => r 0 s b 0))
    (lOf (vis c) (qOf (k0_pay1 (xOf i b) (wqOf i)) 1) (ownOf 0 (own 0) b 1) (fun s => r 0 s b 1))
    (lOf (vis c) (qOf (k0_pay1 (xOf i b) (wqOf i)) 2) (ownOf 0 (own 0) b 2) (fun s => r 0 s b 2))
    (lOf (vis c) (qOf (k0_pay1 (xOf i b) (wqOf i)) 3) (ownOf 0 (own 0) b 3) (fun s => r 0 s b 3))
    (aOf (vis c) (qOf (k0_pay1 (xOf i b) (wqOf i)) 0) (ownOf 0 (own 0) b 0) (ownOf 1 (own 1) b 0) (fun s => r 0 s b 0) (fun s => r 1 s b 0))
    (aOf (vis c) (qOf (k0_pay1 (xOf i b) (wqOf i)) 1) (ownOf 0 (own 0) b 1) (ownOf 1 (own 1) b 1) (fun s => r 0 s b 1) (fun s => r 1 s b 1))
    (aOf (vis c) (qOf (k0_pay1 (xOf i b) (wqOf i)) 2) (ownOf 0 (own 0) b 2) (ownOf 1 (own 1) b 2) (fun s => r 0 s b 2) (fun s => r 1 s b 2))
    (aOf (vis c) (qOf (k0_pay1 (xOf i b) (wqOf i)) 3) (ownOf 0 (own 0) b 3) (ownOf 1 (own 1) b 3) (fun s => r 0 s b 3) (fun s => r 1 s b 3))
    (woOf i))

/-! ## The codes of a device that comes later are not used -/

theorem pay105_hidden (q : FVec F S256x64 .bf16) (k k' : Vec F S1x1x1x64x256 .i8) : k0_pay105 0#1 q k = k0_pay105 0#1 q k' := rfl

theorem pay106_congr {v : BitVec 1} (l : FVec F S256x1 .f32) (q : FVec F S256x64 .bf16) {k k' : Vec F S1x1x1x64x256 .i8} (h : v = 0#1 ∨ k = k') :
    k0_pay106 l v q k = k0_pay106 l v q k' := by
  rcases h with rfl | rfl
  · unfold k0_pay106; rw [pay105_hidden q k k']
  · rfl
theorem pay107_congr {v : BitVec 1} (q : FVec F S256x64 .bf16) {k k' : Vec F S1x1x1x64x256 .i8} (h : v = 0#1 ∨ k = k') :
    k0_pay107 v q k = k0_pay107 v q k' := by
  rcases h with rfl | rfl
  · unfold k0_pay107; rw [pay105_hidden q k k']
  · rfl
theorem pay114_congr {v : BitVec 1} (a : FVec F S256x64 .f32) (e : FVec F S256x256 .bf16) {w w' : Vec F S1x1x1x64x256 .i8} (h : v = 0#1 ∨ w = w') :
    k0_pay114 a v e w = k0_pay114 a v e w' := by
  rcases h with rfl | rfl <;> rfl

theorem lOf_congr {v : Dev nD → BitVec 1} (q : FVec F S256x64 .bf16) (ko : Vec F S1x1x64x256 .i8) {k k' : Dev nD → Vec F S1x1x1x64x256 .i8}
    (h : ∀ s, v s = 0#1 ∨ k s = k' s) : lOf v q ko k = lOf v q ko k' := by
  unfold lOf
  rw [pay106_congr _ q (h 2), pay106_congr _ q (h 0), pay106_congr _ q (h 1)]
theorem aOf_congr {v : Dev nD → BitVec 1} (q : FVec F S256x64 .bf16) (ko vo : Vec F S1x1x64x256 .i8) {k k' w w' : Dev nD → Vec F S1x1x1x64x256 .i8}
    (h : ∀ s, v s = 0#1 ∨ k s = k' s) (h' : ∀ s, v s = 0#1 ∨ w s = w' s) : aOf v q ko vo k w = aOf v q ko vo k' w' := by
  unfold aOf
  rw [pay107_congr q (h 2), pay107_congr q (h 0), pay107_congr q (h 1), pay114_congr _ _ (h' 2), pay114_congr _ _ (h' 0), pay114_congr _ _ (h' 1)]

theorem rowOf_congr (c : Dev nD) (i : Ins F) (own : Codes F) {r r' : Read F} (h : ∀ j s, s < c → r j s = r' j s) (b : Fin 2) :
    rowOf c i own r b = rowOf c i own r' b := by
  have hr : ∀ (j : Fin 2) (n : Fin 4) (s : Dev nD), vis c s = 0#1 ∨ r j s b n = r' j s b n := fun j n s => by
    by_cases hs : s < c
    · right; rw [h j s hs]
    · left; exact vis_of_not_lt hs
  unfold rowOf
  rw [lOf_congr _ _ (hr 0 0), lOf_congr _ _ (hr 0 1), lOf_congr _ _ (hr 0 2), lOf_congr _ _ (hr 0 3),
    aOf_congr _ _ _ (hr 0 0) (hr 1 0), aOf_congr _ _ _ (hr 0 1) (hr 1 1), aOf_congr _ _ _ (hr 0 2) (hr 1 2), aOf_congr _ _ _ (hr 0 3) (hr 1 3)]

/-- The codes of `s`, as they would be read from a slot. -/
def sentOf (j : Fin 2) (f : (stgM j).view.ty.Contents (Elt F)) (b : Fin 2) (h : Fin 4) : Vec F S1x1x1x64x256 .i8 :=
  fun p => (stgM j).view.read (Elt F) f (ValueIdx.ix4 b h (p 3) (p 4))

theorem castSlot : S1x2x4x64x256.ShapeCasts S2x4x64x256 := by decide

/-- A slot that reads as the codes of `s` reads so head by head. -/
theorem slotOf_eq (j : Fin 2) (s : Dev nD) {f : (allM j).view.ty.Contents (Elt F)} {g : (stgM j).view.ty.Contents (Elt F)}
    (hf : (slotM j s).view.read (Elt F) f = (stgM j).view.read (Elt F) g) (b : Fin 2) (h : Fin 4) : slotOf j s f b h = sentOf j g b h := by
  funext p
  obtain ⟨p0, p1, p2, p3, p4, rfl⟩ : ∃ p0 p1 p2 p3 p4, p = ValueIdx.ix5 p0 p1 p2 p3 p4 := ⟨p 0, p 1, p 2, p 3, p 4, ValueIdx.eq_ix5 p⟩
  have h0 := congrFun hf (ValueIdx.ix4 b h p3 p4)
  refine Eq.trans ?_ h0
  have e := Memref.read_squeeze_slice (Val := Elt F) (allM j) (Rect.unit (s := S4x2x4x64x256) ![s.val, 0, 0, 0, 0] S1x2x4x64x256.size (inbSlot s))
    (fun _ => rfl) squeezes_S1x2x4x64x256_S2x4x64x256 castSlot f
  rw [e, shapeCast_apply _ _ (ValueIdx.ix4 b h p3 p4) (ValueIdx.ix5 (0 : Fin 1) b h p3 p4) ?_]
  · obtain rfl : p0 = (0 : Fin 1) := Subsingleton.elim _ _
    obtain rfl : p1 = (0 : Fin 1) := Subsingleton.elim _ _
    obtain rfl : p2 = (0 : Fin 1) := Subsingleton.elim _ _
    unfold slotOf
    rw [View.readAt_apply, View.readAt_apply]
    refine congrArg _ (funext fun a => ?_)
    fin_cases a <;> refine Fin.ext ?_ <;> simp [Rect.unit]
  · simp [Shape.rowMajor_val_five, Shape.rowMajor_val_four]

/-- What is read of a device's own codes. -/
theorem ownOf_apply (j : Fin 2) (g : (stgM j).view.ty.Contents (Elt F)) (b : Fin 2) (h : Fin 4) (p : S1x1x64x256.Idx) :
    ownOf j g b h p = (stgM j).view.read (Elt F) g (ValueIdx.ix4 b h (p 2) (p 3)) := by
  obtain ⟨p0, p1, p2, p3, rfl⟩ : ∃ p0 p1 p2 p3, p = ValueIdx.ix4 p0 p1 p2 p3 := ⟨p 0, p 1, p 2, p 3, ValueIdx.eq_ix4 p⟩
  obtain rfl : p0 = (0 : Fin 1) := Subsingleton.elim _ _
  obtain rfl : p1 = (0 : Fin 1) := Subsingleton.elim _ _
  unfold ownOf
  rw [View.readAt_apply]
  refine congrArg _ (funext fun a => ?_)
  fin_cases a <;> refine Fin.ext ?_ <;> simp [Rect.unit]

end Cert.KernelIdeal.Attn
-- ==== Proof.Fin.lean ====
/-
# The end of the body

What a device holds when its body ends.
-/
module

public import proofs.«01_k».proof.Proof.Ready
public import proofs.«01_k».proof.Proof.Out

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (kv : Dev nD → Codes F) (K : GSem nD τ sig → ℕ)

/-- The result buffer after both batches are stored. -/
abbrev stored (c : Dev nD) (f : Buf (Elt F) (outM.view.loc (c : Thread nD τ))) (w0 w1 : FVec F S1x256x512 .f32) : Buf (Elt F) (outM.view.loc (c : Thread nD τ)) :=
  (outM.access (Rect.unit (s := S2x256x512) ![1, 0, 0] S1x256x512.size inb_S2x256x512_S1x256x512_1_0_0)).write (Elt F)
    ((outM.access (Rect.unit (s := S2x256x512) ![0, 0, 0] S1x256x512.size inb_S2x256x512_S1x256x512_0_0_0)).write (Elt F) f w0 Finset.univ) w1 Finset.univ

/-- The codes every device sent. -/
def sent : Read F := fun j s b h => sentOf j (kv s j) b h

/-- The result of device `c`. -/
def outOf (c : Dev nD) (i : Ins F) (f : Buf (Elt F) (outM.view.loc (c : Thread nD τ))) : Buf (Elt F) (outM.view.loc (c : Thread nD τ)) :=
  stored c f (rowOf c i (kv c) (sent kv) 0) (rowOf c i (kv c) (sent kv) 1)

/-- Slot `s` of device `c` when its body ends. -/
def slotEnd (j : Fin 2) (c s : Dev nD) : sProp 𝕄 := iprop(∃ f, slotAt j c s f)

/-- The thirteen pieces when the body ends. -/
def A₂ (c : Dev nD) (i : Ins F) (f : Buf (Elt F) (outM.view.loc (c : Thread nD τ))) : Fin 13 → sProp 𝕄
  | 0 => slotEnd 0 c 2 | 1 => slotEnd 1 c 2 | 2 => slotEnd 0 c 0 | 3 => slotEnd 1 c 0 | 4 => slotEnd 0 c 1 | 5 => slotEnd 1 c 1
  | 6 => whole outM c (outOf kv c i f)
  | 7 => sentB kv c 0 3 | 8 => sentB kv c 0 2 | 9 => sentB kv c 0 1 | 10 => sentB kv c 1 3 | 11 => sentB kv c 1 2 | 12 => sentB kv c 2 3

/-- What device `c` holds when its body ends. -/
def Done (c : Dev nD) (i : Ins F) (f : Buf (Elt F) (outM.view.loc (c : Thread nD τ))) : sProp 𝕄 := Frm kv K c 0 (Keep c) i (A₂ kv c i f)

/-- The contents of the receive buffers that the loads of a stage saw. -/
def seen (f0 f2 f4 : (allM 0).view.ty.Contents (Elt F)) (f1 f3 f5 : (allM 1).view.ty.Contents (Elt F)) : Read F
  | 0, 2 => slotOf 0 2 f0 | 0, 0 => slotOf 0 0 f2 | 0, 1 => slotOf 0 1 f4 | 0, 3 => slotOf 0 3 f0
  | 1, 2 => slotOf 1 2 f1 | 1, 0 => slotOf 1 0 f3 | 1, 1 => slotOf 1 1 f5 | 1, 3 => slotOf 1 3 f1

theorem not_three_lt : ∀ c : Dev nD, ¬ (3 : Dev nD) < c := by decide

theorem seen_eq (c : Dev nD) {f0 f2 f4 : (allM 0).view.ty.Contents (Elt F)} {f1 f3 f5 : (allM 1).view.ty.Contents (Elt F)}
    (h0 : 2 < c → (slotM 0 2).view.read (Elt F) f0 = (stgM 0).view.read (Elt F) (kv 2 0))
    (h1 : 2 < c → (slotM 1 2).view.read (Elt F) f1 = (stgM 1).view.read (Elt F) (kv 2 1))
    (h2 : 0 < c → (slotM 0 0).view.read (Elt F) f2 = (stgM 0).view.read (Elt F) (kv 0 0))
    (h3 : 0 < c → (slotM 1 0).view.read (Elt F) f3 = (stgM 1).view.read (Elt F) (kv 0 1))
    (h4 : 1 < c → (slotM 0 1).view.read (Elt F) f4 = (stgM 0).view.read (Elt F) (kv 1 0))
    (h5 : 1 < c → (slotM 1 1).view.read (Elt F) f5 = (stgM 1).view.read (Elt F) (kv 1 1)) :
    ∀ j s, s < c → seen f0 f2 f4 f1 f3 f5 j s = sent kv j s
  | 0, 2, h => funext fun b => funext fun n => slotOf_eq 0 2 (h0 h) b n
  | 0, 0, h => funext fun b => funext fun n => slotOf_eq 0 0 (h2 h) b n
  | 0, 1, h => funext fun b => funext fun n => slotOf_eq 0 1 (h4 h) b n
  | 1, 2, h => funext fun b => funext fun n => slotOf_eq 1 2 (h1 h) b n
  | 1, 0, h => funext fun b => funext fun n => slotOf_eq 1 0 (h3 h) b n
  | 1, 1, h => funext fun b => funext fun n => slotOf_eq 1 1 (h5 h) b n
  | 0, 3, h => absurd h (not_three_lt c)
  | 1, 3, h => absurd h (not_three_lt c)

/-- The pieces as the last step leaves them are the pieces of the end. -/
theorem finish (c : Dev nD) (i : Ins F) (f : Buf (Elt F) (outM.view.loc (c : Thread nD τ))) {A : Fin 13 → sProp 𝕄}
    {f0 f2 f4 : (allM 0).view.ty.Contents (Elt F)} {f1 f3 f5 : (allM 1).view.ty.Contents (Elt F)}
    (h0 : 2 < c → (slotM 0 2).view.read (Elt F) f0 = (stgM 0).view.read (Elt F) (kv 2 0))
    (h1 : 2 < c → (slotM 1 2).view.read (Elt F) f1 = (stgM 1).view.read (Elt F) (kv 2 1))
    (h2 : 0 < c → (slotM 0 0).view.read (Elt F) f2 = (stgM 0).view.read (Elt F) (kv 0 0))
    (h3 : 0 < c → (slotM 1 0).view.read (Elt F) f3 = (stgM 1).view.read (Elt F) (kv 0 1))
    (h4 : 1 < c → (slotM 0 1).view.read (Elt F) f4 = (stgM 0).view.read (Elt F) (kv 1 0))
    (h5 : 1 < c → (slotM 1 1).view.read (Elt F) f5 = (stgM 1).view.read (Elt F) (kv 1 1))
    (e0 : A 0 = slotAt 0 c 2 f0) (e1 : A 1 = slotAt 1 c 2 f1) (e2 : A 2 = slotAt 0 c 0 f2) (e3 : A 3 = slotAt 1 c 0 f3) (e4 : A 4 = slotAt 0 c 1 f4)
    (e5 : A 5 = slotAt 1 c 1 f5) (e6 : A 6 = whole outM c (stored c f (rowOf c i (kv c) (seen f0 f2 f4 f1 f3 f5) 0) (rowOf c i (kv c) (seen f0 f2 f4 f1 f3 f5) 1)))
    (e7 : A 7 = sentB kv c 0 3) (e8 : A 8 = sentB kv c 0 2) (e9 : A 9 = sentB kv c 0 1) (e10 : A 10 = sentB kv c 1 3) (e11 : A 11 = sentB kv c 1 2)
    (e12 : A 12 = sentB kv c 2 3) :
    Frm kv K c 0 (Keep c) i A ⊢ Done kv K c i f := by
  have hr := seen_eq kv c h0 h1 h2 h3 h4 h5
  rw [rowOf_congr c i (kv c) hr 0, rowOf_congr c i (kv c) hr 1] at e6
  unfold Done Frm
  refine sep_mono_right ?_
  rw [pieces, pieces, e0, e1, e2, e3, e4, e5, e6, e7, e8, e9, e10, e11, e12]
  dsimp only [A₂, slotEnd, outOf]
  iintro ⟨H0, H1, H2, H3, H4, H5, HR⟩
  isplitl [H0]; · iexists f0; iexact H0
  isplitl [H1]; · iexists f1; iexact H1
  isplitl [H2]; · iexists f2; iexact H2
  isplitl [H3]; · iexists f3; iexact H3
  isplitl [H4]; · iexists f4; iexact H4
  isplitl [H5]; · iexists f5; iexact H5
  iexact HR

end Cert.KernelIdeal.Attn
-- ==== Proof.Stored.lean ====
/-
# The stored result

What the result buffer holds after both batches are stored.
-/
module

public import proofs.«01_k».proof.Proof.Fin
public import Idealize.ShloMosaic.Lib.Pipeline.Value

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (kv : Dev nD → Codes F) (K : GSem nD τ sig → ℕ)

open Idealize.ShloMosaic.ValueIdx

/-- The rectangle of batch `b` of the result. -/
abbrev batchRect (b : Nat) (hb : ∀ a, (![b, 0, 0] : Fin 3 → Nat) a + S1x256x512.size a ≤ S2x256x512.size a) : Rect S2x256x512 :=
  Rect.unit (s := S2x256x512) ![b, 0, 0] S1x256x512.size hb

/-- A store of one batch, at a member of that batch. -/
theorem write_here (b : Nat) (hb) (f : outM.view.ty.Contents (Elt F)) (w : FVec F S1x256x512 .f32) (p : S2x256x512.Idx) (h : (p 0).val = b) :
    (outM.access (batchRect b hb)).write (Elt F) f w Finset.univ p = w (ix3 0 (p 1) (p 2)) := by
  have e : (outM.access (batchRect b hb)).emb (ix3 0 (p 1) (p 2) : S1x256x512.Idx) = p := by
    funext a; apply Fin.ext
    show (![b, 0, 0] : Fin 3 → Nat) a + 1 * ((ix3 0 (p 1) (p 2) : S1x256x512.Idx) a).val = (p a).val
    match a with
    | 0 => show b + 1 * 0 = (p 0).val; omega
    | 1 => show 0 + 1 * (p 1).val = (p 1).val; omega
    | 2 => show 0 + 1 * (p 2).val = (p 2).val; omega
  have := View.write_emb_of_mem (v := outM.access (batchRect b hb)) (Val := Elt F) f w (M := Finset.univ) (x := (ix3 0 (p 1) (p 2) : S1x256x512.Idx)) (Finset.mem_univ _)
  rw [e] at this
  exact this

/-- A store of one batch, at a member of another batch. -/
theorem write_there (b : Nat) (hb) (f : outM.view.ty.Contents (Elt F)) (w : FVec F S1x256x512 .f32) (p : S2x256x512.Idx) (h : (p 0).val ≠ b) :
    (outM.access (batchRect b hb)).write (Elt F) f w Finset.univ p = f p := by
  refine View.write_of_not_mem _ _ _ fun hp => ?_
  have hp' : p ∈ (batchRect b hb).set := by
    have : p ∈ (outM.access (batchRect b hb)).set := by simpa [View.setOn, View.set] using hp
    rw [show (outM.access (batchRect b hb)).set = _ from View.set_slice_whole _ _] at this
    exact this
  have := (Rect.mem_set_unit.mp hp') 0
  have h1 : b ≤ (p 0).val := this.1
  have h2 : (p 0).val < b + 1 := this.2
  omega

/-- Two batches as one array. -/
def placed (w0 w1 : FVec F S1x256x512 .f32) : FVec F S2x256x512 .f32 := fun p => (if (p 0).val = 0 then w0 else w1) (ix3 0 (p 1) (p 2))

/-- The result buffer does not depend on what it held before. -/
theorem stored_eq (c : Dev nD) (f : Buf (Elt F) (outM.view.loc (c : Thread nD τ))) (w0 w1 : FVec F S1x256x512 .f32) : stored c f w0 w1 = placed w0 w1 := by
  funext p
  unfold placed
  by_cases h : (p 0).val = 0
  · rw [if_pos h]
    exact (write_there 1 _ _ w1 p (by omega)).trans (write_here 0 _ f w0 p h)
  · rw [if_neg h]
    have : (p 0).val < 2 := (p 0).isLt
    exact write_here 1 _ _ w1 p (by omega)

/-- The result of device `c`. -/
def outV (c : Dev nD) (i : Ins F) : FVec F S2x256x512 .f32 := placed (rowOf c i (kv c) (sent kv) 0) (rowOf c i (kv c) (sent kv) 1)

theorem outOf_eq (c : Dev nD) (i : Ins F) (f : Buf (Elt F) (outM.view.loc (c : Thread nD τ))) : outOf kv c i f = outV kv c i := stored_eq c f _ _

end Cert.KernelIdeal.Attn
-- ==== Proof.Deal.lean ====
/-
# The resources of a device, dealt

The receive buffers slot by slot, the staged codes share by share, and the
six pairs of copies seen from one device.
-/
module

public import proofs.«01_k».proof.Proof.Fin
public import Idealize.ShloMosaic.Lib.Ring

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (kv : Dev nD → Codes F) (K : GSem nD τ sig → ℕ)

/-! ## Conjunctions with a condition -/

section Cond

variable {M : Type} [URA M] {ι : Type} [Fintype ι] [DecidableEq ι]

theorem sep_emp' (P : sProp M) : iprop(P ∗ emp) = P := BI.equiv_iff.mp sep_emp
theorem emp_sep' (P : sProp M) : iprop(emp ∗ P) = P := BI.equiv_iff.mp emp_sep
theorem bigSep_none {κ : Type} (s : Finset κ) : bigSep s (fun _ => (iprop(emp) : sProp M)) = iprop(emp) := BI.bigSep_emp_const s

/-- A conjunction over all indices is one over those with a property beside one over the others. -/
theorem bigSep_ite (p : ι → Prop) [DecidablePred p] (Φ : ι → sProp M) : bigSep Finset.univ Φ
    = iprop((bigSep Finset.univ fun i => if p i then Φ i else iprop(emp)) ∗ bigSep Finset.univ fun i => if p i then iprop(emp) else Φ i) := by
  rw [← bigSep_sep']
  refine bigSep_congr fun i _ => ?_
  by_cases h : p i
  · rw [if_pos h, if_pos h, sep_emp']
  · rw [if_neg h, if_neg h, emp_sep']

/-- A conjunction of which only one member says anything. -/
theorem bigSep_only (a : ι) (Φ : ι → sProp M) : (bigSep Finset.univ fun i => if i = a then Φ i else iprop(emp)) = Φ a := by
  rw [bigSep_univ_at _ a, if_pos rfl, bigSep_congr (s := Finset.univ.erase a) (Φ := fun i => if i = a then Φ i else iprop(emp)) (Ψ := fun _ => (iprop(emp) : sProp M))
    fun i hi => if_neg (Finset.ne_of_mem_erase hi), bigSep_none]
  exact sep_emp' _

/-- The six pairs of devices, the lower first, are the pairs with a condition. -/
theorem six (Φ : Dev nD → Dev nD → sProp M) : iprop(Φ 0 3 ∗ Φ 0 2 ∗ Φ 0 1 ∗ Φ 1 3 ∗ Φ 1 2 ∗ Φ 2 3)
    = bigSep Finset.univ fun s : Dev nD => bigSep Finset.univ fun t : Dev nD => if s < t then Φ s t else iprop(emp) := by
  rw [← bigSep_univ_prod (Φ := fun st : Dev nD × Dev nD => if st.1 < st.2 then Φ st.1 st.2 else iprop(emp))]
  refine Eq.trans ?_ (bigSep_filter Finset.univ (fun st : Dev nD × Dev nD => st.1 < st.2) fun st => Φ st.1 st.2)
  rw [bigSep_eq_bigSepL_of_eq [((0 : Dev nD), (3 : Dev nD)), (0, 2), (0, 1), (1, 3), (1, 2), (2, 3)] (by decide) (by decide)]
  rfl

/-- What of the six pairs concerns the device `c` as the lower one. -/
theorem own_pairs (c : Dev nD) (Φ : Dev nD → Dev nD → sProp M) :
    iprop((if c = 0 then Φ 0 3 else iprop(emp)) ∗ (if c = 0 then Φ 0 2 else iprop(emp)) ∗ (if c = 0 then Φ 0 1 else iprop(emp))
      ∗ (if c = 1 then Φ 1 3 else iprop(emp)) ∗ (if c = 1 then Φ 1 2 else iprop(emp)) ∗ (if c = 2 then Φ 2 3 else iprop(emp)))
      = bigSep Finset.univ fun t : Dev nD => if c < t then Φ c t else iprop(emp) := by
  refine (six fun s t => if c = s then Φ s t else iprop(emp)).trans ?_
  rw [← bigSep_only c fun s : Dev nD => bigSep Finset.univ fun t : Dev nD => if s < t then Φ s t else iprop(emp)]
  refine bigSep_congr fun s _ => ?_
  by_cases h : s = c
  · subst h
    rw [if_pos rfl]
    exact bigSep_congr fun t _ => by rw [if_pos rfl]
  · rw [if_neg h]
    refine (bigSep_congr (Ψ := fun _ => iprop(emp)) fun t _ => ?_).trans (bigSep_none _)
    rw [if_neg (fun e : c = s => h e.symm), ite_self]

/-- A conjunction over the devices in the order of the waits, the last device first. -/
theorem in_order (Φ : Dev nD → sProp M) : bigSep Finset.univ Φ = iprop(Φ 3 ∗ Φ 2 ∗ Φ 0 ∗ Φ 1) :=
  bigSep_univ_eq_bigSepL [3, 2, 0, 1] (by decide) (by decide) Φ
theorem in_line (Φ : Dev nD → sProp M) : bigSep Finset.univ Φ = iprop(Φ 0 ∗ Φ 1 ∗ Φ 2 ∗ Φ 3) :=
  bigSep_univ_eq_bigSepL [0, 1, 2, 3] (by decide) (by decide) Φ

end Cond

/-! ## The staged codes, share by share -/

theorem share_eq {ℓ : Loc nD τ sig} {S : Finset (Idx ℓ)} (q : PosShare TreeShare) (f : Buf (Elt F) ℓ) :
    (ℓ ↦[S]{q} f : sProp 𝕄) = iprop((ℓ ↦[S]{q.left} f) ∗ (ℓ ↦[S]{q.right} f)) :=
  BI.Entails.antisymm (pointsTo_share (PosShare.mem_left_op_right q)).1 (pointsTo_share (PosShare.mem_left_op_right q)).2

theorem stg_shares (j : Fin 2) (c : Dev nD) : whole (stgM j) c (kv c j) = bigSep Finset.univ (stgPts kv j c) := by
  rw [bigSep_univ_eq_bigSepL [1, 2, 3, 0] (by decide) (by decide)]
  unfold whole
  rw [share_eq fullShare, share_eq fullShare.right, share_eq fullShare.right.right]
  rfl

/-- The shares that no copy of `c` uses, but the one for the loads. -/
def keepStg (j : Fin 2) (c : Dev nD) : sProp 𝕄 := bigSep Finset.univ fun t => if c < t ∨ t = 0 then iprop(emp) else stgPts kv j c t

theorem stg_split (j : Fin 2) (c : Dev nD) : whole (stgM j) c (kv c j)
    = iprop(stgPts kv j c 0 ∗ (bigSep Finset.univ fun t => if c < t then stgPts kv j c t else iprop(emp)) ∗ keepStg kv j c) := by
  rw [stg_shares, ← bigSep_only (0 : Dev nD) fun t => stgPts kv j c t]
  unfold keepStg
  rw [← bigSep_sep', ← bigSep_sep']
  refine bigSep_congr fun t _ => ?_
  by_cases h0 : t = 0
  · subst h0
    rw [if_pos rfl, if_neg (fun h => absurd h (Nat.not_lt_zero _) : ¬ c < 0), if_pos (.inr rfl), emp_sep', sep_emp']
  · rw [if_neg h0, emp_sep']
    by_cases h : c < t
    · rw [if_pos h, if_pos (.inl h), sep_emp']
    · rw [if_neg h, if_neg (fun e => e.elim h h0), emp_sep']

/-! ## The receive buffers, slot by slot -/

theorem mem_slot (j : Fin 2) (s : Dev nD) (i : S4x2x4x64x256.Idx) :
    i ∈ (Rect.unit (s := S4x2x4x64x256) ![s.val, 0, 0, 0, 0] S1x2x4x64x256.size (inbSlot s)).set ↔ (i 0).val = s.val := by
  rw [Rect.mem_set_unit]
  constructor
  · intro h
    have := h 0
    simp only [Matrix.cons_val_zero] at this
    have h1 : S1x2x4x64x256.size 0 = 1 := rfl
    omega
  · intro h a
    have hlt := (i a).isLt
    fin_cases a
    · exact ⟨h.ge, by show (i 0).val < s.val + 1; omega⟩
    all_goals exact ⟨Nat.zero_le _, by simpa using hlt⟩

/-- The elements of slot `s`, in its buffer. -/
def slotIdx (s : Dev nD) : Finset S4x2x4x64x256.Idx := (Rect.unit (s := S4x2x4x64x256) ![s.val, 0, 0, 0, 0] S1x2x4x64x256.size (inbSlot s)).set

theorem slots_apart (s s' : Dev nD) (h : s ≠ s') : Disjoint (slotIdx s) (slotIdx s') := by
  rw [Finset.disjoint_left]
  intro i hi hi'
  exact h (Fin.ext (((mem_slot 0 s i).mp hi).symm.trans ((mem_slot 0 s' i).mp hi')))
theorem slots_cover : Finset.univ.biUnion slotIdx = Finset.univ := by
  refine Finset.eq_univ_of_forall fun i => Finset.mem_biUnion.mpr ⟨⟨(i 0).val, (i 0).isLt⟩, Finset.mem_univ _, (mem_slot 0 _ i).mpr rfl⟩

theorem slotM_set (j : Fin 2) (s : Dev nD) : (slotM j s).view.set = (slotIdx s).map (allM j).view.emb := slot_set j s

theorem all_set (j : Fin 2) : (allM j).view.set = Finset.univ := by
  match j with
  | 0 => exact View.set_whole _
  | 1 => exact View.set_whole _

/-- The elements of slot `s`, in the receive buffer of device `c`. -/
def slotOn (j : Fin 2) (c s : Dev nD) : Finset (Idx ((allM j).view.loc (c : Thread nD τ))) := (slotM j s).view.set

theorem slotOn_apart (j : Fin 2) (c : Dev nD) (s s' : Dev nD) (h : s ≠ s') : Disjoint (slotOn j c s) (slotOn j c s') := by
  have hm := (Finset.disjoint_map (allM j).view.emb).mpr (slots_apart s s' h)
  rw [← slotM_set, ← slotM_set] at hm
  exact hm
theorem slotOn_cover (j : Fin 2) (c : Dev nD) : Finset.univ.biUnion (slotOn j c) = Finset.univ := by
  refine Finset.eq_univ_of_forall fun i => ?_
  have hi : i ∈ (allM j).view.set := by rw [all_set]; exact Finset.mem_univ _
  obtain ⟨x, -, rfl⟩ := Finset.mem_map.mp hi
  have hx : x ∈ Finset.univ.biUnion slotIdx := by rw [slots_cover]; exact Finset.mem_univ _
  obtain ⟨s, -, hs⟩ := Finset.mem_biUnion.mp hx
  refine Finset.mem_biUnion.mpr ⟨s, Finset.mem_univ _, ?_⟩
  unfold slotOn
  rw [slotM_set]
  exact Finset.mem_map_of_mem _ hs

theorem any_of (j : Fin 2) (c s : Dev nD) (f : Buf (Elt F) ((allM j).view.loc (c : Thread nD τ))) :
    ((allM j).view.loc (c : Thread nD τ) ↦[slotOn j c s]{fullShare} f : sProp 𝕄) ⊢ slotAny j c s := by
  unfold slotAny
  iintro H; iexists f; iexact H

/-- A receive buffer of a device at some contents is its four slots, each at some. -/
theorem slots (j : Fin 2) (c : Dev nD) : (iprop(∃ f : Buf (Elt F) ((allM j).view.loc (c : Thread nD τ)), (allM j).view.loc (c : Thread nD τ) ↦{fullShare} f) : sProp 𝕄)
    ⊢ bigSep Finset.univ (slotAny j c) := by
  have hs (f : Buf (Elt F) ((allM j).view.loc (c : Thread nD τ))) :
      ((allM j).view.loc (c : Thread nD τ) ↦{fullShare} f : sProp 𝕄) ⊢ bigSep Finset.univ (slotAny j c) := by
    rw [Idealize.ShloMosaic.Ring.pointsTo_blocks (Ix := Unit) (Name := ℕ) (U := UU) (Lvl := ℕ) (Val := Elt F) (ℓ := (allM j).view.loc (c : Thread nD τ))
      (slotOn j c) (slotOn_apart j c) (slotOn_cover j c) (q := fullShare) f]
    exact bigSep_mono fun s _ => any_of j c s f
  iintro ⟨%f, H⟩
  iapply (hs f) $$ H

/-- And back. -/
theorem slots_join (j : Fin 2) (c : Dev nD) : bigSep Finset.univ (slotAny (F := F) j c)
    ⊢ (iprop(∃ f : Buf (Elt F) ((allM j).view.loc (c : Thread nD τ)), (allM j).view.loc (c : Thread nD τ) ↦{fullShare} f) : sProp 𝕄) := by
  exact Idealize.ShloMosaic.Ring.pointsTo_blocks_join_exists (Ix := Unit) (Name := ℕ) (U := UU) (Lvl := ℕ) (Val := Elt F) (ℓ := (allM j).view.loc (c : Thread nD τ))
    (slotOn j c) (slotOn_apart j c) (slotOn_cover j c) (q := fullShare) (Classical.choice inferInstance)

/-! ## The semaphores of the copies -/

/-- The sixteen semaphores of a device's copies: of sending (`false`) and of receiving (`true`), keys or values, and the other device. -/
abbrev KS : Type := Bool × Fin 2 × Dev nD
def osem : KS → SemLoc sig
  | (false, j, t) => .dma (sendS j t)
  | (true, j, s) => .dma (recvS j s)

/-- Whether device `c` uses one. -/
def act (c : Dev nD) : KS → Prop
  | (false, _, t) => c < t
  | (true, _, s) => s < c
instance act_dec (c : Dev nD) : DecidablePred (act c)
  | (false, _, t) => inferInstanceAs (Decidable (c < t))
  | (true, _, s) => inferInstanceAs (Decidable (s < c))

abbrev ocell (c : Dev nD) (x : KS) : GSem nD τ sig := ((c : Thread nD τ), osem x)

theorem csem_osem : ∀ k : Fin 17, k = 0 ∨ ∃ x : KS, csem k = osem x := by decide

theorem duties_idle (c : Dev nD) (x : KS) (h : ¬ act c x) : ∀ r, (Rd kv).duties (ocell c x) r = ∅ := by
  intro r
  rcases Nat.eq_zero_or_pos r with rfl | hr
  · match x, h with
    | (false, j, t), h => exact (duties_send' kv j c t).trans (if_neg h)
    | (true, j, s), h => exact (duties_recv' kv j c s).trans (if_neg h)
  · exact duties_later kv _ r hr

/-- What opening a semaphore leaves a device: its position when it uses the semaphore, the counter when not. -/
def got (c : Dev nD) (x : KS) : sProp 𝕄 := if act c x then atPos ER (ocell c x) 0 ∅ 0 else semVal (ocell c x) 0

/-- Opening a semaphore. -/
def opens (c : Dev nD) (x : KS) : sProp 𝕄 := fupd frame Set.univ Set.univ iprop(reached ER (ocell c x) 0 ∗ got c x)

theorem open_one (κ : ℕ) (c : Dev nD) (x : KS) :
    iprop(cellInv ER (Rd kv) κ (ocell c x) ∗ openTok ER (ocell c x) ∗ semVal (ocell c x) 0)
      ⊢ (opens c x : sProp 𝕄) := by
  unfold opens got
  iintro ⟨#HI, Ho, Hv⟩
  imod (Rounds.cell_open ER (Rd kv) (g := ocell c x) (Set.mem_univ κ)) $$ [Ho Hv] with ⟨Hat, #Hr⟩
  · isplitr; · iexact HI
    isplitl [Ho] <;> iassumption
  by_cases h : act c x
  · rw [if_pos h]
    imodintro
    isplitr; · iexact Hr
    iexact Hat
  · rw [if_neg h]
    imod (close kv κ (ocell c x) (R := 0) (fun r _ => duties_idle kv c x h r)) $$ [Hat] with Hv
    · isplitr; · iexact HI
      iexact Hat
    imodintro
    isplitr; · iexact Hr
    iexact Hv

theorem inv_osem (c : Dev nD) (x : KS) : invs kv K ⊢ cellInv ER (Rd kv) (K (ocell c x)) (ocell c x) :=
  match x with
  | (false, j, t) => inv_send kv K j c t
  | (true, j, s) => inv_recv kv K j c s

/-- All sixteen opened. -/
theorem open_sems (c : Dev nD) :
    iprop(invs kv K ∗ bigSep Finset.univ (fun x : KS => iprop(openTok ER (ocell c x) ∗ semVal (ocell c x) 0)))
      ⊢ (|={Set.univ}=> iprop((bigSep Finset.univ fun x : KS => reached ER (ocell c x) 0) ∗ bigSep Finset.univ fun x : KS => got c x) : sProp 𝕄) := by
  refine (bigSep_with_persistent (Ψ := opens c) fun x _ => ?_).trans ?_
  · iintro ⟨#HI, Ho, Hv⟩
    iapply (open_one kv (K (ocell c x)) c x)
    isplitr; · iapply (inv_osem kv K c x); iexact HI
    isplitl [Ho] <;> iassumption
  · unfold opens
    refine (bigSep_fupd _ _).trans ?_
    rw [bigSep_sep']

theorem open_all (c : Dev nD) : iprop(reached ER (barCell c) 0 ∗ bigSep Finset.univ fun x : KS => reached ER (ocell c x) 0) ⊢ openAll (F := F) c := by
  unfold openAll
  refine bigSep_intro_persistent fun k _ => ?_
  rcases csem_osem k with rfl | ⟨x, hx⟩
  · iintro ⟨H, -⟩; iexact H
  · have h : (bigSep Finset.univ fun x : KS => (reached ER (ocell c x) 0 : sProp 𝕄)) ⊢ reached ER (ocell c x) 0 := bigSep_elim (Finset.mem_univ x)
    rw [show kcell c k = ocell c x from Prod.ext rfl hx]
    iintro ⟨-, H⟩
    iapply h $$ H

/-- A conjunction over the sixteen, spelt. -/
theorem over_sems (Φ : KS → sProp 𝕄) : bigSep Finset.univ Φ
    = iprop(((bigSep Finset.univ fun t => Φ (false, 0, t)) ∗ bigSep Finset.univ fun t => Φ (false, 1, t))
      ∗ ((bigSep Finset.univ fun s => Φ (true, 0, s)) ∗ bigSep Finset.univ fun s => Φ (true, 1, s))) := by
  rw [bigSep_univ_prod, bigSep_univ_eq_bigSepL [false, true] (by decide) (by decide)]
  show iprop(bigSep Finset.univ (fun p : Fin 2 × Dev nD => Φ (false, p)) ∗ bigSep Finset.univ (fun p : Fin 2 × Dev nD => Φ (true, p))) = _
  rw [bigSep_univ_prod, bigSep_univ_prod, bigSep_univ_two, bigSep_univ_two]

end Cert.KernelIdeal.Attn
-- ==== Proof.Begin.lean ====
/-
# From what a device is dealt to the start of its body, and back

`begin` collects what a device holds at launch into what its body starts
from; `ending` gives back the buffers and the semaphores, all counters at 0.
-/
module

public import proofs.«01_k».proof.Proof.Deal

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (kv : Dev nD → Codes F) (K : GSem nD τ sig → ℕ)

/-! ## What a device is dealt -/

/-- The tokens of the four duties of the copies of `s` to `t`. -/
def copyToks (s t : Dev nD) : sProp 𝕄 :=
  iprop(dutyTok ER (sendCell 0 s t) 0 s ∗ dutyTok ER (recvCell 0 t s) 0 s ∗ dutyTok ER (sendCell 1 s t) 0 s ∗ dutyTok ER (recvCell 1 t s) 0 s)
/-- The tokens of the duties device `c` pays to `p`. -/
def toks (c p : Dev nD) : sProp 𝕄 := iprop(dutyTok ER (barCell p) 0 c ∗ copyToks c p)
/-- The credit of a landing. -/
def lcred (j : Fin 2) (c s : Dev nD) : sProp 𝕄 := if s < c then cred (tallyAt (recvCell j c s) () N) else iprop(emp)
/-- A receive buffer whole, at some contents. -/
def scr (j : Fin 2) (c : Dev nD) : sProp 𝕄 :=
  iprop(∃ f : Buf (Elt F) ((allM j).view.loc (c : Thread nD τ)), (allM j).view.loc (c : Thread nD τ) ↦{fullShare} f)

/-- The counters of the send semaphores not used, -/
def idleS (c t : Dev nD) : sProp 𝕄 := if c < t then iprop(emp) else iprop(semVal (sendCell 0 c t) 0 ∗ semVal (sendCell 1 c t) 0)
/-- and of the receive semaphores not used. -/
def idleR (j : Fin 2) (c s : Dev nD) : sProp 𝕄 := if s < c then iprop(emp) else semVal (recvCell j c s) 0

/-- What stands aside while the body runs. -/
def Left (c : Dev nD) : sProp 𝕄 :=
  iprop((keepStg kv 0 c ∗ keepStg kv 1 c) ∗ bigSep Finset.univ (idleS c) ∗ (bigSep Finset.univ (idleR 0 c) ∗ bigSep Finset.univ (idleR 1 c))
    ∗ (landB 0 c 3 ∗ landB 1 c 3))

/-! ## Member by member -/

theorem sig_in (c p : Dev nD) : iprop(openAll c ∗ dutyTok ER (barCell p) 0 c ∗ (if p < c then slotAny 0 c p else iprop(emp)) ∗ (if p < c then slotAny 1 c p else iprop(emp)))
    ⊢ sigB (F := F) c p := by
  unfold sigB barPay
  by_cases h : p = c
  · rw [if_pos h]; iintro -; iempintro
  · rw [if_neg h]
    by_cases hl : p < c
    · rw [if_pos hl, if_pos hl, if_pos hl]
      iintro ⟨#HA, Ht, H0, H1⟩
      isplitl [Ht]; · iexact Ht
      isplitl [H0 H1]; · isplitl [H0] <;> iassumption
      isplitr
      · iapply (open_recv 0 c p); iexact HA
      · iapply (open_recv 1 c p); iexact HA
    · rw [if_neg hl, if_neg hl, if_neg hl]
      iintro ⟨-, Ht, -, -⟩
      isplitl [Ht]; · iexact Ht
      iempintro

theorem recv_in (j : Fin 2) (c s : Dev nD) : iprop(lcred j c s ∗ got c (true, j, s) ∗ (if s < c then iprop(emp) else slotAny j c s))
    ⊢ iprop(landB (F := F) j c s ∗ idleR j c s) := by
  unfold lcred got landB idleR
  by_cases h : s < c
  · rw [if_pos h, if_pos (show act c (true, j, s) from h), if_pos h, if_pos h, if_pos h]
    iintro ⟨H1, H2, -⟩
    isplitl [H1 H2]
    · isplitl [H1]; · iexact H1
      iexact H2
    iempintro
  · rw [if_neg h, if_neg (show ¬ act c (true, j, s) from h), if_neg h, if_neg h, if_neg h]
    iintro ⟨-, H2, H3⟩
    isplitl [H3]; · iexact H3
    iexact H2

theorem recv_out (j : Fin 2) (c s : Dev nD) : iprop(slotEnd j c s ∗ idleR j c s) ⊢ iprop(semVal (recvCell j c s) 0 ∗ slotAny (F := F) j c s) := by
  unfold slotEnd slotAt idleR slotAny
  by_cases h : s < c
  · simp only [if_pos h]
    iintro ⟨⟨%f, Hv, Hs⟩, -⟩
    isplitl [Hv]; · iexact Hv
    iexists f; iexact Hs
  · simp only [if_neg h]
    iintro ⟨⟨%f, -, Hs⟩, Hv⟩
    isplitl [Hv]; · iexact Hv
    iexists f; iexact Hs

theorem last_out (j : Fin 2) (c : Dev nD) : iprop(landB j c 3 ∗ idleR j c 3) ⊢ iprop(semVal (recvCell j c 3) 0 ∗ slotAny (F := F) j c 3) := by
  unfold landB idleR
  rw [if_neg (not_three_lt c), if_neg (not_three_lt c)]
  iintro ⟨H1, H2⟩
  isplitl [H2] <;> iassumption

/-- What the copies of `s` to `t` start from, but for the slots. -/
def readyS (s t : Dev nD) : sProp 𝕄 :=
  iprop((copyToks s t ∗ (stgPts kv 0 s t ∗ stgPts kv 1 s t)) ∗ atPos ER (sendCell 0 s t) 0 ∅ 0 ∗ atPos ER (sendCell 1 s t) 0 ∅ 0)
/-- What they leave. -/
def overS (s t : Dev nD) : sProp 𝕄 :=
  iprop((semVal (sendCell 0 s t) 0 ∗ semVal (sendCell 1 s t) 0) ∗ stgPts kv 0 s t ∗ stgPts kv 1 s t)

theorem readyS_in (c s t : Dev nD) : (if c = s then readyS kv s t else iprop(emp)) ⊢ iprop(sendPre kv c s t ∗ posB c s t) := by
  unfold readyS sendPre posB copyToks
  by_cases h : c = s
  · rw [if_pos h, if_pos h, if_pos h]
  · rw [if_neg h, if_neg h, if_neg h, sep_emp']

theorem send_in (c t : Dev nD) : iprop(copyToks c t ∗ (if c < t then stgPts kv 0 c t else iprop(emp)) ∗ (if c < t then stgPts kv 1 c t else iprop(emp))
      ∗ got c (false, 0, t) ∗ got c (false, 1, t))
    ⊢ iprop((if c < t then readyS kv c t else iprop(emp)) ∗ idleS c t) := by
  unfold got idleS readyS
  by_cases h : c < t
  · rw [if_pos h, if_pos h, if_pos (show act c (false, 0, t) from h), if_pos (show act c (false, 1, t) from h), if_pos h, if_pos h]
    iintro ⟨H1, H2, H3, H4, H5⟩
    isplitl
    · isplitl [H1 H2 H3]
      · isplitl [H1]; · iexact H1
        isplitl [H2] <;> iassumption
      isplitl [H4]; · iexact H4
      iexact H5
    iempintro
  · rw [if_neg h, if_neg h, if_neg (show ¬ act c (false, 0, t) from h), if_neg (show ¬ act c (false, 1, t) from h), if_neg h, if_neg h]
    iintro ⟨-, -, -, H4, H5⟩
    isplitr; · iempintro
    isplitl [H4]; · iexact H4
    iexact H5

theorem send_out (c t : Dev nD) : iprop((if c < t then overS kv c t else iprop(emp)) ∗ idleS c t)
    ⊢ iprop((semVal (sendCell 0 c t) 0 ∗ semVal (sendCell 1 c t) 0) ∗ (if c < t then stgPts kv 0 c t else iprop(emp)) ∗ (if c < t then stgPts kv 1 c t else iprop(emp))) := by
  unfold idleS overS
  by_cases h : c < t
  · rw [if_pos h, if_pos h, if_pos h, if_pos h]
    iintro ⟨⟨Hv, H0, H1⟩, -⟩
    isplitl [Hv]; · iexact Hv
    isplitl [H0] <;> iassumption
  · rw [if_neg h, if_neg h, if_neg h, if_neg h]
    iintro ⟨-, Hv⟩
    isplitl [Hv]; · iexact Hv
    isplitr <;> iempintro

/-! ## All members -/

theorem sigs_in (c : Dev nD) : iprop(openAll c ∗ (bigSep Finset.univ fun p => dutyTok ER (barCell p) 0 c)
      ∗ (bigSep Finset.univ fun p => if p < c then slotAny 0 c p else iprop(emp)) ∗ bigSep Finset.univ fun p => if p < c then slotAny 1 c p else iprop(emp))
    ⊢ iprop(sigB (F := F) c 0 ∗ sigB c 1 ∗ sigB c 2 ∗ sigB c 3) := by
  rw [← in_line, ← bigSep_sep', ← bigSep_sep']
  exact bigSep_with_persistent fun p _ => sig_in c p

theorem recvs_in (j : Fin 2) (c : Dev nD) : iprop(bigSep Finset.univ (lcred j c) ∗ (bigSep Finset.univ fun s => got c (true, j, s))
      ∗ bigSep Finset.univ fun s => if s < c then iprop(emp) else slotAny j c s)
    ⊢ iprop((landB (F := F) j c 3 ∗ landB j c 2 ∗ landB j c 0 ∗ landB j c 1) ∗ bigSep Finset.univ (idleR j c)) := by
  rw [← in_order, ← bigSep_sep', ← bigSep_sep', ← bigSep_sep']
  exact bigSep_mono fun s _ => recv_in j c s

theorem recvs_out (j : Fin 2) (c : Dev nD) : iprop((landB j c 3 ∗ slotEnd j c 2 ∗ slotEnd j c 0 ∗ slotEnd j c 1) ∗ bigSep Finset.univ (idleR j c))
    ⊢ iprop((bigSep Finset.univ fun s => semVal (recvCell j c s) 0) ∗ scr (F := F) j c) := by
  have h : iprop((landB j c 3 ∗ slotEnd j c 2 ∗ slotEnd j c 0 ∗ slotEnd j c 1) ∗ bigSep Finset.univ (idleR j c))
      ⊢ iprop((bigSep Finset.univ fun s => semVal (recvCell j c s) 0) ∗ bigSep Finset.univ (slotAny (F := F) j c)) := by
    rw [← bigSep_sep', in_order, in_order]
    iintro ⟨⟨H3, H2, H0, H1⟩, I3, I2, I0, I1⟩
    isplitl [H3 I3]; · iapply (last_out j c); isplitl [H3] <;> iassumption
    isplitl [H2 I2]; · iapply (recv_out j c 2); isplitl [H2] <;> iassumption
    isplitl [H0 I0]; · iapply (recv_out j c 0); isplitl [H0] <;> iassumption
    iapply (recv_out j c 1); isplitl [H1] <;> iassumption
  refine h.trans ?_
  iintro ⟨H1, H2⟩
  isplitl [H1]; · iexact H1
  unfold scr
  iapply (slots_join j c) $$ H2

theorem sends_in (c : Dev nD) : iprop((bigSep Finset.univ fun t => copyToks c t) ∗ (bigSep Finset.univ fun t => if c < t then stgPts kv 0 c t else iprop(emp))
      ∗ (bigSep Finset.univ fun t => if c < t then stgPts kv 1 c t else iprop(emp)) ∗ (bigSep Finset.univ fun t => got c (false, 0, t)) ∗ bigSep Finset.univ fun t => got c (false, 1, t))
    ⊢ iprop(((sendPre kv c 0 3 ∗ posB c 0 3) ∗ (sendPre kv c 0 2 ∗ posB c 0 2) ∗ (sendPre kv c 0 1 ∗ posB c 0 1) ∗ (sendPre kv c 1 3 ∗ posB c 1 3)
      ∗ (sendPre kv c 1 2 ∗ posB c 1 2) ∗ (sendPre kv c 2 3 ∗ posB c 2 3)) ∗ bigSep Finset.univ (idleS c)) := by
  have h : iprop((bigSep Finset.univ fun t => copyToks c t) ∗ (bigSep Finset.univ fun t => if c < t then stgPts kv 0 c t else iprop(emp))
      ∗ (bigSep Finset.univ fun t => if c < t then stgPts kv 1 c t else iprop(emp)) ∗ (bigSep Finset.univ fun t => got c (false, 0, t)) ∗ bigSep Finset.univ fun t => got c (false, 1, t))
    ⊢ iprop((bigSep Finset.univ fun t => if c < t then readyS kv c t else iprop(emp)) ∗ bigSep Finset.univ (idleS c)) := by
    rw [← bigSep_sep', ← bigSep_sep', ← bigSep_sep', ← bigSep_sep', ← bigSep_sep']
    exact bigSep_mono fun t _ => send_in kv c t
  refine h.trans ?_
  rw [← own_pairs]
  iintro ⟨⟨H1, H2, H3, H4, H5, H6⟩, HI⟩
  isplitr [HI]
  · isplitl [H1]; · iapply (readyS_in kv c 0 3) $$ H1
    isplitl [H2]; · iapply (readyS_in kv c 0 2) $$ H2
    isplitl [H3]; · iapply (readyS_in kv c 0 1) $$ H3
    isplitl [H4]; · iapply (readyS_in kv c 1 3) $$ H4
    isplitl [H5]; · iapply (readyS_in kv c 1 2) $$ H5
    iapply (readyS_in kv c 2 3) $$ H6
  iexact HI

theorem sends_out (c : Dev nD) : iprop((sentB kv c 0 3 ∗ sentB kv c 0 2 ∗ sentB kv c 0 1 ∗ sentB kv c 1 3 ∗ sentB kv c 1 2 ∗ sentB kv c 2 3) ∗ bigSep Finset.univ (idleS c))
    ⊢ iprop(((bigSep Finset.univ fun t => semVal (sendCell 0 c t) 0) ∗ bigSep Finset.univ fun t => semVal (sendCell 1 c t) 0)
      ∗ (bigSep Finset.univ fun t => if c < t then stgPts kv 0 c t else iprop(emp)) ∗ bigSep Finset.univ fun t => if c < t then stgPts kv 1 c t else iprop(emp)) := by
  rw [← bigSep_sep', ← bigSep_sep', ← bigSep_sep']
  rw [show iprop(sentB kv c 0 3 ∗ sentB kv c 0 2 ∗ sentB kv c 0 1 ∗ sentB kv c 1 3 ∗ sentB kv c 1 2 ∗ sentB kv c 2 3)
    = bigSep Finset.univ fun t : Dev nD => if c < t then overS kv c t else iprop(emp) from own_pairs c (overS kv), ← bigSep_sep']
  exact bigSep_mono fun t _ => send_out kv c t

/-! ## The start and the end -/

/-- The buffers the body works on: the five inputs staged, the result at any contents, and the receive buffers. -/
def Bufs (c : Dev nD) (i : Ins F) (f : Buf (Elt F) (outM.view.loc (c : Thread nD τ))) : sProp 𝕄 :=
  iprop((scr 0 c ∗ scr 1 c) ∗ whole xM c i.x ∗ whole wqM c i.wq ∗ whole (stgM 0) c (kv c 0) ∗ whole (stgM 1) c (kv c 1) ∗ whole woM c i.wo ∗ whole outM c f)

/-- What of the protocol a device holds when its body is entered. -/
def Entry (c : Dev nD) : sProp 𝕄 :=
  iprop((invs kv K ∗ openAll c ∗ openBar ∗ levAts L lv) ∗ (cred (tallyAt (barCell c) () 3) ∗ atPos ER (barCell c) 0 ∅ 0)
    ∗ bigSep Finset.univ (toks c) ∗ (bigSep Finset.univ (lcred 0 c) ∗ bigSep Finset.univ (lcred 1 c)) ∗ bigSep Finset.univ fun x : KS => got c x)

theorem scr_split (j : Fin 2) (c : Dev nD) : scr (F := F) j c
    ⊢ iprop((bigSep Finset.univ fun s => if s < c then slotAny j c s else iprop(emp)) ∗ bigSep Finset.univ fun s => if s < c then iprop(emp) else slotAny j c s) := by
  unfold scr
  rw [← bigSep_ite (fun s => s < c)]
  exact slots j c

theorem toks_split (c : Dev nD) : bigSep Finset.univ (toks (F := F) c)
    ⊢ iprop((bigSep Finset.univ fun p => dutyTok ER (barCell p) 0 c) ∗ bigSep Finset.univ fun p => copyToks c p) := by
  unfold toks
  rw [bigSep_sep']

theorem begin_body (c : Dev nD) (i : Ins F) (f : Buf (Elt F) (outM.view.loc (c : Thread nD τ))) :
    iprop(Entry kv K c ∗ Ow c (O₀ c) ∗ Bufs kv c i f) ⊢ iprop(Start kv K c i f ∗ Left kv c) := by
  unfold Entry Bufs Start Left
  rw [over_sems, pieces, stg_split kv 0 c, stg_split kv 1 c]
  dsimp only [A₁]
  iintro ⟨⟨⟨#HI, #HA, #HB, #HL⟩, ⟨Hc, Hp⟩, HT, ⟨Lc0, Lc1⟩, ⟨Gs0, Gs1⟩, Gr0, Gr1⟩, HO, ⟨Sc0, Sc1⟩, Hx, Hwq, ⟨K0, Ks, Kk⟩, ⟨V0, Vs, Vk⟩, Hwo, Hout⟩
  ihave Sc0 := (scr_split 0 c) $$ Sc0
  ihave Sc1 := (scr_split 1 c) $$ Sc1
  ihave HT := (toks_split c) $$ HT
  icases Sc0 with ⟨Sl0, Sm0⟩
  icases Sc1 with ⟨Sl1, Sm1⟩
  icases HT with ⟨Tb, Tc⟩
  ihave HS := (sigs_in c) $$ [Tb Sl0 Sl1]
  · isplitr; · iexact HA
    isplitl [Tb]; · iexact Tb
    isplitl [Sl0] <;> iassumption
  ihave HR0 := (recvs_in 0 c) $$ [Lc0 Gr0 Sm0]
  · isplitl [Lc0]; · iexact Lc0
    isplitl [Gr0] <;> iassumption
  ihave HR1 := (recvs_in 1 c) $$ [Lc1 Gr1 Sm1]
  · isplitl [Lc1]; · iexact Lc1
    isplitl [Gr1] <;> iassumption
  ihave HD := (sends_in kv c) $$ [Tc Ks Vs Gs0 Gs1]
  · isplitl [Tc]; · iexact Tc
    isplitl [Ks]; · iexact Ks
    isplitl [Vs]; · iexact Vs
    isplitl [Gs0] <;> iassumption
  icases HR0 with ⟨⟨A3, A2, A0, A1⟩, AI⟩
  icases HR1 with ⟨⟨B3, B2, B0, B1⟩, BI⟩
  icases HD with ⟨⟨D1, D2, D3, D4, D5, D6⟩, DI⟩
  isplitr [Kk Vk DI AI BI A3 B3]
  · isplitr; · iexact HI
    isplitr; · iexact HA
    isplitr; · iexact HB
    isplitr; · iexact HL
    isplitl [Hc]; · iexact Hc
    isplitl [Hp]; · iexact Hp
    isplitl [HS]; · iexact HS
    isplitl [HO]; · iexact HO
    isplitl [Hx Hwq Hwo K0 V0]
    · isplitl [Hx]; · iexact Hx
      isplitl [Hwq]; · iexact Hwq
      isplitl [Hwo]; · iexact Hwo
      isplitl [K0] <;> iassumption
    isplitl [A2]; · iexact A2
    isplitl [B2]; · iexact B2
    isplitl [A0]; · iexact A0
    isplitl [B0]; · iexact B0
    isplitl [A1]; · iexact A1
    isplitl [B1]; · iexact B1
    isplitl [Hout]; · iexact Hout
    isplitl [D1]; · iexact D1
    isplitl [D2]; · iexact D2
    isplitl [D3]; · iexact D3
    isplitl [D4]; · iexact D4
    isplitl [D5] <;> iassumption
  isplitl [Kk Vk]; · isplitl [Kk] <;> iassumption
  isplitl [DI]; · iexact DI
  isplitl [AI BI]; · isplitl [AI] <;> iassumption
  isplitl [A3] <;> iassumption

theorem end_body (c : Dev nD) (i : Ins F) (f : Buf (Elt F) (outM.view.loc (c : Thread nD τ))) :
    iprop(Done kv K c i f ∗ Left kv c)
      ⊢ iprop((semVal (barCell c) 0 ∗ bigSep Finset.univ fun x : KS => semVal (ocell c x) 0) ∗ Ow c 0 ∗ Bufs kv c i (outOf kv c i f)) := by
  unfold Done Frm Keep Left Bufs
  rw [over_sems, pieces, stg_split kv 0 c, stg_split kv 1 c]
  dsimp only [A₂]
  iintro ⟨⟨⟨-, HO, ⟨-, Hb⟩, Hx, Hwq, Hwo, K0, V0⟩, A2, B2, A0, B0, A1, B1, Hout, D1, D2, D3, D4, D5, D6⟩, ⟨Kk, Vk⟩, DI, ⟨AI, BI⟩, A3, B3⟩
  ihave HR0 := (recvs_out 0 c) $$ [A3 A2 A0 A1 AI]
  · isplitr [AI]
    · isplitl [A3]; · iexact A3
      isplitl [A2]; · iexact A2
      isplitl [A0] <;> iassumption
    iexact AI
  ihave HR1 := (recvs_out 1 c) $$ [B3 B2 B0 B1 BI]
  · isplitr [BI]
    · isplitl [B3]; · iexact B3
      isplitl [B2]; · iexact B2
      isplitl [B0] <;> iassumption
    iexact BI
  ihave HD := (sends_out kv c) $$ [D1 D2 D3 D4 D5 D6 DI]
  · isplitr [DI]
    · isplitl [D1]; · iexact D1
      isplitl [D2]; · iexact D2
      isplitl [D3]; · iexact D3
      isplitl [D4]; · iexact D4
      isplitl [D5] <;> iassumption
    iexact DI
  icases HR0 with ⟨R0, Sc0⟩
  icases HR1 with ⟨R1, Sc1⟩
  icases HD with ⟨HS, Ks, Vs⟩
  isplitl [Hb HS R0 R1]
  · isplitl [Hb]; · iexact Hb
    isplitl [HS]; · iexact HS
    isplitl [R0]; · iexact R0
    iexact R1
  isplitl [HO]; · iexact HO
  isplitl [Sc0 Sc1]; · isplitl [Sc0] <;> iassumption
  isplitl [Hx]; · iexact Hx
  isplitl [Hwq]; · iexact Hwq
  isplitl [K0 Ks Kk]
  · isplitl [K0]; · iexact K0
    isplitl [Ks] <;> iassumption
  isplitl [V0 Vs Vk]
  · isplitl [V0]; · iexact V0
    isplitl [Vs] <;> iassumption
  isplitl [Hwo] <;> iassumption

end Cert.KernelIdeal.Attn
-- ==== Proof.Run.lean ====
/-
# The run of the body

From the start on a device to the end of its last wait.
-/
module

public import proofs.«01_k».proof.Proof.Fin

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (kv : Dev nD → Codes F) (K : GSem nD τ sig → ℕ)

theorem cond1 : ∀ c : Dev nD, k0_cond1 c = 1#1 ↔ (0 : Dev nD) ≠ c := by decide
theorem cond2 : ∀ c : Dev nD, k0_cond2 c = 1#1 ↔ (1 : Dev nD) ≠ c := by decide
theorem cond3 : ∀ c : Dev nD, k0_cond3 c = 1#1 ↔ (2 : Dev nD) ≠ c := by decide
theorem cond4 : ∀ c : Dev nD, k0_cond4 c = 1#1 ↔ (3 : Dev nD) ≠ c := by decide
theorem cond5 : ∀ c : Dev nD, k0_cond5 c = 1#1 ↔ c = 0 := by decide
theorem cond6 : ∀ c : Dev nD, k0_cond6 c = 1#1 ↔ c = 0 := by decide
theorem cond7 : ∀ c : Dev nD, k0_cond7 c = 1#1 ↔ c = 0 := by decide
theorem cond8 : ∀ c : Dev nD, k0_cond8 c = 1#1 ↔ c = 1 := by decide
theorem cond9 : ∀ c : Dev nD, k0_cond9 c = 1#1 ↔ c = 1 := by decide
theorem cond10 : ∀ c : Dev nD, k0_cond10 c = 1#1 ↔ c = 2 := by decide
theorem after0 : ∀ c : Dev nD, Scalar.cmpi .ne (Scalar.extui (Scalar.cmpi .sgt (place c) 0#32)) 0#32 = 1#1 ↔ (0 : Dev nD) < c := by decide
theorem is0 : ∀ c : Dev nD, Scalar.cmpi .ne (Scalar.extui (Scalar.cmpi .eq (place c) 0#32)) 0#32 = 1#1 ↔ c = 0 := by decide
theorem after1 : ∀ c : Dev nD, Scalar.cmpi .ne (Scalar.extui (Scalar.cmpi .sgt (place c) 1#32)) 0#32 = 1#1 ↔ (1 : Dev nD) < c := by decide
theorem is1 : ∀ c : Dev nD, Scalar.cmpi .ne (Scalar.extui (Scalar.cmpi .eq (place c) 1#32)) 0#32 = 1#1 ↔ c = 1 := by decide
theorem after2 : ∀ c : Dev nD, Scalar.cmpi .ne (Scalar.extui (Scalar.cmpi .sgt (place c) 2#32)) 0#32 = 1#1 ↔ (2 : Dev nD) < c := by decide
theorem is2 : ∀ c : Dev nD, Scalar.cmpi .ne (Scalar.extui (Scalar.cmpi .eq (place c) 2#32)) 0#32 = 1#1 ↔ c = 2 := by decide

set_option maxHeartbeats 4000000 in
/-- The run. -/
theorem run_all (c : Dev nD) (i : Ins F) (f : Buf (Elt F) (outM.view.loc (c : Thread nD τ))) :
    Start kv K c i f ⊢ WP c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5) (fun _ => Done kv K c i f) := by
  rw [cc0_body_eq_skeleton]
  unfold cc0_body_skel
  refine run_bind ?_
  rw [k0_part1_eq_skeleton]
  unfold k0_part1_skel
  refine run_device ?_
  refine run_ready (F := F) kv K c i f (cond1 c) (cond2 c) (cond3 c) (cond4 c) (fun _ => Fin.ext k0_dev1_eq) (fun _ => Fin.ext k0_dev2_eq) (fun _ => Fin.ext k0_dev3_eq) (fun _ => Fin.ext k0_dev4_eq) rfl ?_
  unfold OS
  refine run_send (F := F) 7 0 3 (keep_open c) ?_ ?_ ?_ ?_ ?_ ?_ ?_ ?_ ?_ ?_ ?_ ?_ ?_ ?_
  · rfl
  · decide
  · exact cond5 c
  · exact fun _ => Fin.ext k0_dev5_eq
  · exact fun _ => Fin.ext k0_dev6_eq
  · rfl
  · rfl
  · rfl
  · rfl
  · rfl
  · rfl
  · rfl
  · rfl
  refine run_send (F := F) 8 0 2 (keep_open c) ?_ ?_ ?_ ?_ ?_ ?_ ?_ ?_ ?_ ?_ ?_ ?_ ?_ ?_
  · rfl
  · decide
  · exact cond6 c
  · exact fun _ => Fin.ext k0_dev7_eq
  · exact fun _ => Fin.ext k0_dev8_eq
  · rfl
  · rfl
  · rfl
  · rfl
  · rfl
  · rfl
  · rfl
  · rfl
  refine run_send (F := F) 9 0 1 (keep_open c) ?_ ?_ ?_ ?_ ?_ ?_ ?_ ?_ ?_ ?_ ?_ ?_ ?_ ?_
  · rfl
  · decide
  · exact cond7 c
  · exact fun _ => Fin.ext k0_dev9_eq
  · exact fun _ => Fin.ext k0_dev10_eq
  · rfl
  · rfl
  · rfl
  · rfl
  · rfl
  · rfl
  · rfl
  · rfl
  refine run_send (F := F) 10 1 3 (keep_open c) ?_ ?_ ?_ ?_ ?_ ?_ ?_ ?_ ?_ ?_ ?_ ?_ ?_ ?_
  · rfl
  · decide
  · exact cond8 c
  · exact fun _ => Fin.ext k0_dev11_eq
  · exact fun _ => Fin.ext k0_dev12_eq
  · rfl
  · rfl
  · rfl
  · rfl
  · rfl
  · rfl
  · rfl
  · rfl
  refine run_ret ?_
  refine run_bind ?_
  rw [k0_part2_eq_skeleton]
  unfold k0_part2_skel
  refine run_send (F := F) 11 1 2 (keep_open c) ?_ ?_ ?_ ?_ ?_ ?_ ?_ ?_ ?_ ?_ ?_ ?_ ?_ ?_
  · rfl
  · decide
  · exact cond9 c
  · exact fun _ => Fin.ext k0_dev13_eq
  · exact fun _ => Fin.ext k0_dev14_eq
  · rfl
  · rfl
  · rfl
  · rfl
  · rfl
  · rfl
  · rfl
  · rfl
  refine run_send (F := F) 12 2 3 (keep_open c) ?_ ?_ ?_ ?_ ?_ ?_ ?_ ?_ ?_ ?_ ?_ ?_ ?_ ?_
  · rfl
  · decide
  · exact cond10 c
  · exact fun _ => Fin.ext k0_dev15_eq
  · exact fun _ => Fin.ext k0_dev16_eq
  · rfl
  · rfl
  · rfl
  · rfl
  · rfl
  · rfl
  · rfl
  · rfl
  refine load_x (F := F) ?_
  refine load_wq (F := F) ?_
  refine load_x (F := F) ?_
  refine load_wq (F := F) ?_
  refine load_k (F := F) ?_
  refine load_v (F := F) ?_
  refine run_ret ?_
  refine run_bind ?_
  rw [k0_part3_eq_skeleton]
  unfold k0_part3_skel
  refine load_k (F := F) ?_
  refine load_v (F := F) ?_
  refine run_ret ?_
  refine run_bind ?_
  rw [k0_part4_eq_skeleton]
  unfold k0_part4_skel
  refine load_k (F := F) ?_
  refine run_ret ?_
  refine run_bind ?_
  rw [k0_part5_eq_skeleton]
  unfold k0_part5_skel
  refine load_v (F := F) ?_
  refine load_k (F := F) ?_
  refine run_ret ?_
  refine run_bind ?_
  rw [k0_part6_eq_skeleton]
  unfold k0_part6_skel
  refine load_v (F := F) ?_
  refine load_k (F := F) ?_
  refine run_ret ?_
  refine run_bind ?_
  rw [k0_part7_eq_skeleton]
  unfold k0_part7_skel
  refine load_v (F := F) ?_
  refine run_ret ?_
  refine run_bind ?_
  rw [k0_part8_eq_skeleton]
  unfold k0_part8_skel
  refine load_k (F := F) ?_
  refine load_v (F := F) ?_
  refine run_ret ?_
  refine run_bind ?_
  rw [k0_part9_eq_skeleton]
  unfold k0_part9_skel
  refine load_k (F := F) ?_
  refine load_v (F := F) ?_
  refine run_ret ?_
  refine run_bind ?_
  rw [k0_part10_eq_skeleton]
  unfold k0_part10_skel
  refine load_k (F := F) ?_
  refine load_v (F := F) ?_
  refine run_ret ?_
  refine run_bind ?_
  rw [k0_part11_eq_skeleton]
  unfold k0_part11_skel
  refine run_land (F := F) 0 0 2 rfl (after2 c) rfl rfl rfl fun f0 hf0 => ?_
  refine load_slotK (F := F) 0 2 rfl (slot_sub 0 2 0 0 _) ?_
  refine load_slotK (F := F) 0 2 rfl (slot_sub 0 2 0 1 _) ?_
  refine run_ret ?_
  refine run_bind ?_
  rw [k0_part12_eq_skeleton]
  unfold k0_part12_skel
  refine load_slotK (F := F) 0 2 rfl (slot_sub 0 2 0 2 _) ?_
  refine load_slotK (F := F) 0 2 rfl (slot_sub 0 2 0 3 _) ?_
  refine load_slotK (F := F) 0 2 rfl (slot_sub 0 2 1 0 _) ?_
  refine run_ret ?_
  refine run_bind ?_
  rw [k0_part13_eq_skeleton]
  unfold k0_part13_skel
  refine load_slotK (F := F) 0 2 rfl (slot_sub 0 2 1 1 _) ?_
  refine load_slotK (F := F) 0 2 rfl (slot_sub 0 2 1 2 _) ?_
  refine load_slotK (F := F) 0 2 rfl (slot_sub 0 2 1 3 _) ?_
  refine run_land (F := F) 1 1 2 rfl (after2 c) rfl rfl rfl fun f1 hf1 => ?_
  refine run_ret ?_
  refine run_bind ?_
  rw [k0_part14_eq_skeleton]
  unfold k0_part14_skel
  refine load_slotV (F := F) 1 2 rfl (slot_sub 1 2 0 0 _) ?_
  refine load_slotV (F := F) 1 2 rfl (slot_sub 1 2 0 1 _) ?_
  refine load_slotV (F := F) 1 2 rfl (slot_sub 1 2 0 2 _) ?_
  refine load_slotV (F := F) 1 2 rfl (slot_sub 1 2 0 3 _) ?_
  refine run_ret ?_
  refine run_bind ?_
  rw [k0_part15_eq_skeleton]
  unfold k0_part15_skel
  refine load_slotV (F := F) 1 2 rfl (slot_sub 1 2 1 0 _) ?_
  refine load_slotV (F := F) 1 2 rfl (slot_sub 1 2 1 1 _) ?_
  refine load_slotV (F := F) 1 2 rfl (slot_sub 1 2 1 2 _) ?_
  refine load_slotV (F := F) 1 2 rfl (slot_sub 1 2 1 3 _) ?_
  refine run_land (F := F) 2 0 0 rfl (after0 c) rfl rfl rfl fun f2 hf2 => ?_
  refine run_ret ?_
  refine run_bind ?_
  rw [k0_part16_eq_skeleton]
  unfold k0_part16_skel
  refine load_slotK (F := F) 2 0 rfl (slot_sub 0 0 0 0 _) ?_
  refine load_slotK (F := F) 2 0 rfl (slot_sub 0 0 0 1 _) ?_
  refine load_slotK (F := F) 2 0 rfl (slot_sub 0 0 0 2 _) ?_
  refine run_ret ?_
  refine run_bind ?_
  rw [k0_part17_eq_skeleton]
  unfold k0_part17_skel
  refine load_slotK (F := F) 2 0 rfl (slot_sub 0 0 0 3 _) ?_
  refine load_slotK (F := F) 2 0 rfl (slot_sub 0 0 1 0 _) ?_
  refine load_slotK (F := F) 2 0 rfl (slot_sub 0 0 1 1 _) ?_
  refine run_ret ?_
  refine run_bind ?_
  rw [k0_part18_eq_skeleton]
  unfold k0_part18_skel
  refine load_slotK (F := F) 2 0 rfl (slot_sub 0 0 1 2 _) ?_
  refine load_slotK (F := F) 2 0 rfl (slot_sub 0 0 1 3 _) ?_
  refine run_land (F := F) 3 1 0 rfl (after0 c) rfl rfl rfl fun f3 hf3 => ?_
  refine load_slotV (F := F) 3 0 rfl (slot_sub 1 0 0 0 _) ?_
  refine run_ret ?_
  refine run_bind ?_
  rw [k0_part19_eq_skeleton]
  unfold k0_part19_skel
  refine load_slotV (F := F) 3 0 rfl (slot_sub 1 0 0 1 _) ?_
  refine load_slotV (F := F) 3 0 rfl (slot_sub 1 0 0 2 _) ?_
  refine load_slotV (F := F) 3 0 rfl (slot_sub 1 0 0 3 _) ?_
  refine load_slotV (F := F) 3 0 rfl (slot_sub 1 0 1 0 _) ?_
  refine run_ret ?_
  refine run_bind ?_
  rw [k0_part20_eq_skeleton]
  unfold k0_part20_skel
  refine load_slotV (F := F) 3 0 rfl (slot_sub 1 0 1 1 _) ?_
  refine load_slotV (F := F) 3 0 rfl (slot_sub 1 0 1 2 _) ?_
  refine load_slotV (F := F) 3 0 rfl (slot_sub 1 0 1 3 _) ?_
  refine run_land (F := F) 4 0 1 rfl (after1 c) rfl rfl rfl fun f4 hf4 => ?_
  refine load_slotK (F := F) 4 1 rfl (slot_sub 0 1 0 0 _) ?_
  refine run_ret ?_
  refine run_bind ?_
  rw [k0_part21_eq_skeleton]
  unfold k0_part21_skel
  refine load_slotK (F := F) 4 1 rfl (slot_sub 0 1 0 1 _) ?_
  refine load_slotK (F := F) 4 1 rfl (slot_sub 0 1 0 2 _) ?_
  refine load_slotK (F := F) 4 1 rfl (slot_sub 0 1 0 3 _) ?_
  refine run_ret ?_
  refine run_bind ?_
  rw [k0_part22_eq_skeleton]
  unfold k0_part22_skel
  refine load_slotK (F := F) 4 1 rfl (slot_sub 0 1 1 0 _) ?_
  refine load_slotK (F := F) 4 1 rfl (slot_sub 0 1 1 1 _) ?_
  refine load_slotK (F := F) 4 1 rfl (slot_sub 0 1 1 2 _) ?_
  refine run_ret ?_
  refine run_bind ?_
  rw [k0_part23_eq_skeleton]
  unfold k0_part23_skel
  refine load_slotK (F := F) 4 1 rfl (slot_sub 0 1 1 3 _) ?_
  refine run_land (F := F) 5 1 1 rfl (after1 c) rfl rfl rfl fun f5 hf5 => ?_
  refine load_slotV (F := F) 5 1 rfl (slot_sub 1 1 0 0 _) ?_
  refine load_slotV (F := F) 5 1 rfl (slot_sub 1 1 0 1 _) ?_
  refine run_ret ?_
  refine run_bind ?_
  rw [k0_part24_eq_skeleton]
  unfold k0_part24_skel
  refine load_slotV (F := F) 5 1 rfl (slot_sub 1 1 0 2 _) ?_
  refine load_slotV (F := F) 5 1 rfl (slot_sub 1 1 0 3 _) ?_
  refine load_slotV (F := F) 5 1 rfl (slot_sub 1 1 1 0 _) ?_
  refine load_slotV (F := F) 5 1 rfl (slot_sub 1 1 1 1 _) ?_
  refine run_ret ?_
  refine run_bind ?_
  rw [k0_part25_eq_skeleton]
  unfold k0_part25_skel
  refine load_slotV (F := F) 5 1 rfl (slot_sub 1 1 1 2 _) ?_
  refine load_slotV (F := F) 5 1 rfl (slot_sub 1 1 1 3 _) ?_
  refine load_wo (F := F) ?_
  refine load_out (F := F) rfl ?_
  refine run_ret ?_
  refine run_bind ?_
  rw [k0_part26_eq_skeleton]
  unfold k0_part26_skel
  refine store_out (F := F) rfl ?_
  refine load_wo (F := F) ?_
  refine load_out (F := F) rfl ?_
  refine store_out (F := F) rfl ?_
  refine run_sent (F := F) 9 0 1 rfl (by decide) (is0 c) rfl rfl rfl rfl rfl rfl ?_
  refine run_sent (F := F) 8 0 2 rfl (by decide) (is0 c) rfl rfl rfl rfl rfl rfl ?_
  refine run_sent (F := F) 7 0 3 rfl (by decide) (is0 c) rfl rfl rfl rfl rfl rfl ?_
  refine run_ret ?_
  refine run_sent (F := F) 11 1 2 rfl (by decide) (is1 c) rfl rfl rfl rfl rfl rfl ?_
  refine run_sent (F := F) 10 1 3 rfl (by decide) (is1 c) rfl rfl rfl rfl rfl rfl ?_
  refine run_sent (F := F) 12 2 3 rfl (by decide) (is2 c) rfl rfl rfl rfl rfl rfl ?_
  refine run_ret ?_
  exact finish kv K c i f hf0 hf1 hf2 hf3 hf4 hf5 rfl rfl rfl rfl rfl rfl rfl rfl rfl rfl rfl rfl rfl

end Cert.KernelIdeal.Attn
-- ==== Proof.Region.lean ====
/-
# The region

The kernel region of the program: what it starts from, its body, what it leaves.
-/
module

public import proofs.«01_k».proof.Proof.Stored
public import proofs.«01_k».proof.Proof.Begin
public import proofs.«01_k».proof.Proof.Run
public import proofs.«01_k».proof.Proof.Gen.KernelIdeal.Frame
public import Idealize.ShloMosaic.Lib.Pipeline.RegionTalk

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

open Idealize.ShloMosaic.Pipeline (Dat BodyObligation)

variable (m : (ℓ : Loc nD τ sig) → Buf (Elt F) ℓ) (ρ : Dev nD → PrngReg)

/-- The codes device `c` stages, -/
def kvOf (c : Dev nD) : Codes F
  | 0 => iblk m c 2 t0_0
  | 1 => iblk m c 3 t0_0
/-- its other inputs, -/
def insOf (c : Dev nD) : Ins F := ⟨iblk m c 0 t0_0, iblk m c 1 t0_0, iblk m c 4 t0_0⟩
/-- and its result. -/
def resOf (c : Dev nD) : FVec F S2x256x512 .f32 := outV (kvOf m) c (insOf m c)

/-- What a device brings into the region, -/
def Tk (c : Dev nD) : sProp 𝕄 :=
  iprop(∃ κ : GSem nD τ sig → ℕ, invs (kvOf m) κ ∗ openBar ∗ reached ER (barCell c) 0
    ∗ (cred (tallyAt (barCell c) () 3) ∗ atPos ER (barCell c) 0 ∅ 0) ∗ (bigSep Finset.univ fun x : KS => openTok ER (ocell c x))
    ∗ bigSep Finset.univ (toks c) ∗ (bigSep Finset.univ (lcred 0 c) ∗ bigSep Finset.univ (lcred 1 c)))
/-- what of it the body starts from, -/
def Xk (c : Dev nD) : sProp 𝕄 := iprop(∃ κ, Entry (kvOf m) κ c)
/-- and what the region leaves. -/
def Yk (c : Dev nD) : sProp 𝕄 := semVal (barCell c) 0

def semsPart (c : Dev nD) : sProp 𝕄 := bigSep Finset.univ fun x : KS => semVal (ocell c x) 0
def rest (c : Dev nD) : sProp 𝕄 := iprop((scr 0 c ∗ scr 1 c) ∗ ∃ r, prngReg c r)

/-- The region's one point: it owes `O₀` before and nothing after. -/
def dat0 (c : Dev nD) : Dat τ (Elt F) Unit ℕ UU ℕ cfg0 c where
  A w := V m c (Pipeline.arrRef spec0 w)
  after w t := match w with
    | 0 => iblk m c 0 t | 1 => iblk m c 1 t | 2 => iblk m c 2 t | 3 => iblk m c 3 t | 4 => iblk m c 4 t
    | 5 => resOf m c
  Φ t := if t.val = 0 then iprop(Xk m c ∗ rest c) else iprop((semVal (barCell c) 0 ∗ semsPart c) ∗ rest c)
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat0 m

theorem owed_zero (c : Dev nD) : (dat0 m c).owed 0 = O₀ c := by
  show (if (0 : Fin (cfg0.N + 1)).val = 0 then O₀ c else 0) = O₀ c; exact if_pos rfl
theorem owed_first (c : Dev nD) : (dat0 m c).owed t0_0.castSucc = O₀ c := by
  show (if (t0_0.castSucc : Fin (cfg0.N + 1)).val = 0 then O₀ c else 0) = O₀ c; exact if_pos rfl
theorem owed_last (c : Dev nD) : (dat0 m c).owed (Fin.last _) = 0 := by
  show (if (Fin.last cfg0.N).val = 0 then O₀ c else 0) = 0
  rw [Fin.val_last, if_neg (by rw [show cfg0.N = 1 from N_0]; decide)]

theorem owesAt_intro {cfg : Pipeline.Cfg sig Λ₀} {c : Dev nD} (dat : Dat τ (Elt F) Unit ℕ UU ℕ cfg c) (t : Fin (cfg.N + 1))
    (O : CellTallies nD τ sig Unit) (h0 : dat.owed t = O) (hr : dat.recorded t = Set.univ) : Ow (F := F) c O ⊢ (dat.owesAt () t : sProp 𝕄) := by
  unfold Ow Dat.owesAt Pipeline.owesWithin Dat.bound; rw [h0, hr]
  iintro ⟨%W, HO⟩; iexists W; isplitr; · ipureintro; exact fun _ _ => Or.inl trivial
  iexact HO
theorem owesAt_elim {cfg : Pipeline.Cfg sig Λ₀} {c : Dev nD} (dat : Dat τ (Elt F) Unit ℕ UU ℕ cfg c) (t : Fin (cfg.N + 1))
    (O : CellTallies nD τ sig Unit) (h0 : dat.owed t = O) : (dat.owesAt () t : sProp 𝕄) ⊢ Ow (F := F) c O := by
  unfold Ow Dat.owesAt Pipeline.owesWithin; rw [h0]
  iintro ⟨%W, -, HO⟩; iexists W; iexact HO

/-- A whole buffer through its memref. -/
abbrev wholeRef (c : Dev nD) (b : Ref sig .tc) (f : Buf (Elt F) ((Memref.whole b).view.loc (c : Thread nD τ))) : sProp 𝕄 :=
  (Memref.whole b).view.loc (c : Thread nD τ) ↦[(Memref.whole b).view.set]{fullShare} f
/-- A staging buffer whole is the buffer at the view's set. -/
theorem whole_eq {b : Ref sig .tc} (c : Dev nD) (f : Buf (Elt F) ((Memref.whole b).view.loc (c : Thread nD τ))) :
    (iprop((c : Thread nD τ).loc b ↦{fullShare} f) : sProp 𝕄) = wholeRef c b f := by
  show _ = (iprop((c : Thread nD τ).loc b ↦[(View.whole b).set]{fullShare} f) : sProp 𝕄); rw [View.set_whole]

theorem before_0 (c : Dev nD) (d) : (dat0 m c).before 0 t0_0 d = iblk m c 0 t0_0 := by unfold Dat.before; rw [if_pos (fetch0_0 t0_0)]; rfl
theorem before_1 (c : Dev nD) (d) : (dat0 m c).before 1 t0_0 d = iblk m c 1 t0_0 := by unfold Dat.before; rw [if_pos (fetch0_1 t0_0)]; rfl
theorem before_2 (c : Dev nD) (d) : (dat0 m c).before 2 t0_0 d = iblk m c 2 t0_0 := by unfold Dat.before; rw [if_pos (fetch0_2 t0_0)]; rfl
theorem before_3 (c : Dev nD) (d) : (dat0 m c).before 3 t0_0 d = iblk m c 3 t0_0 := by unfold Dat.before; rw [if_pos (fetch0_3 t0_0)]; rfl
theorem before_4 (c : Dev nD) (d) : (dat0 m c).before 4 t0_0 d = iblk m c 4 t0_0 := by unfold Dat.before; rw [if_pos (fetch0_4 t0_0)]; rfl

/-- A staging buffer of device `c` at stated contents. -/
def stg (c : Dev nD) (b : Ref sig .tc) (X : b.ty.Contents (Elt F)) : sProp 𝕄 :=
  iprop(∃ f : Buf (Elt F) ((c : Thread nD τ).loc b), ⌜f = X⌝ ∗ ((c : Thread nD τ).loc b ↦{fullShare} f))

theorem stg_out (c : Dev nD) (b : Ref sig .tc) (X : b.ty.Contents (Elt F)) : stg c b X ⊢ wholeRef (F := F) c b X := by
  unfold stg
  iintro ⟨%f, %h, H⟩
  subst h
  iapply (Entails.of_eq (whole_eq c f)) $$ H
theorem stg_in (c : Dev nD) (b : Ref sig .tc) (X : b.ty.Contents (Elt F)) : wholeRef (F := F) c b X ⊢ stg c b X := by
  unfold stg
  iintro H
  iexists X
  isplitr; · ipureintro; rfl
  iapply (Entails.of_eq (whole_eq c _).symm) $$ H

/-- The body at the region's buffers. -/
abbrev theBody : Prog (TpuEff nD τ sig (Elt F) Λ₀ .tc) PUnit :=
  cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5

/-- The body's run, from what the region gives it to what it gives back. -/
theorem body_run (c : Dev nD) (f : Buf (Elt F) (outM.view.loc (c : Thread nD τ))) :
    iprop(Xk m c ∗ Ow c (O₀ c) ∗ Bufs (kvOf m) c (insOf m c) f)
      ⊢ WP c theBody (fun _ => iprop((semVal (barCell c) 0 ∗ semsPart c) ∗ Ow c 0 ∗ Bufs (kvOf m) c (insOf m c) (resOf m c))) := by
  have hpost (κ : GSem nD τ sig → ℕ) : iprop(Done (kvOf m) κ c (insOf m c) f ∗ Left (kvOf m) c)
      ⊢ iprop((semVal (barCell c) 0 ∗ semsPart c) ∗ Ow c 0 ∗ Bufs (kvOf m) c (insOf m c) (resOf m c)) := by
    have := end_body (kvOf m) κ c (insOf m c) f
    rw [outOf_eq] at this
    exact this
  have hrun (κ : GSem nD τ sig → ℕ) : iprop(Start (kvOf m) κ c (insOf m c) f ∗ Left (kvOf m) c)
      ⊢ WP c theBody (fun _ => iprop((semVal (barCell c) 0 ∗ semsPart c) ∗ Ow c 0 ∗ Bufs (kvOf m) c (insOf m c) (resOf m c))) :=
    ((sep_mono_left (Q := Left (kvOf m) c) (run_all (kvOf m) κ c (insOf m c) f)).trans (wp_frame_r _ _ _)).trans (wp_mono _ _ _ fun _ => hpost κ)
  unfold Xk
  iintro ⟨⟨%κ, HX⟩, HO, HB⟩
  ihave H := (begin_body (kvOf m) κ c (insOf m c) f) $$ [HX HO HB]
  · isplitl [HX]; · iexact HX
    isplitl [HO] <;> iassumption
  iapply (hrun κ) $$ H

/-- What the region calls the body with, -/
def bodyPre (c : Dev nD) : sProp 𝕄 :=
  iprop((Xk m c ∗ rest c) ∗ (dat0 m c).owesAt () t0_0.castSucc
    ∗ (∃ d, stg c cc0_stg0_0 ((dat0 m c).before 0 t0_0 d)) ∗ (∃ d, stg c cc0_stg1_0 ((dat0 m c).before 1 t0_0 d))
    ∗ (∃ d, stg c cc0_stg2_0 ((dat0 m c).before 2 t0_0 d)) ∗ (∃ d, stg c cc0_stg3_0 ((dat0 m c).before 3 t0_0 d))
    ∗ (∃ d, stg c cc0_stg4_0 ((dat0 m c).before 4 t0_0 d)) ∗ (∃ d, stg c cc0_stg5_0 ((dat0 m c).before 5 t0_0 d)))
/-- and what it takes back. -/
def bodyPost (c : Dev nD) : sProp 𝕄 :=
  iprop(((semVal (barCell c) 0 ∗ semsPart c) ∗ rest c) ∗ (dat0 m c).owesAt () t0_0.succ
    ∗ stg c cc0_stg0_0 (iblk m c 0 t0_0) ∗ stg c cc0_stg1_0 (iblk m c 1 t0_0)
    ∗ stg c cc0_stg2_0 (iblk m c 2 t0_0) ∗ stg c cc0_stg3_0 (iblk m c 3 t0_0)
    ∗ stg c cc0_stg4_0 (iblk m c 4 t0_0) ∗ stg c cc0_stg5_0 (resOf m c))

theorem pre_out (c : Dev nD) : bodyPre m c
    ⊢ iprop(∃ f, (Xk m c ∗ Ow c (O₀ c) ∗ Bufs (kvOf m) c (insOf m c) f) ∗ ∃ r, prngReg c r) := by
  have h0 : stg c cc0_stg0_0 (iblk m c 0 t0_0) ⊢ whole (F := F) xM c (insOf m c).x := stg_out c cc0_stg0_0 _
  have h1 : stg c cc0_stg1_0 (iblk m c 1 t0_0) ⊢ whole (F := F) wqM c (insOf m c).wq := stg_out c cc0_stg1_0 _
  have h2 : stg c cc0_stg2_0 (iblk m c 2 t0_0) ⊢ whole (F := F) (stgM 0) c (kvOf m c 0) := stg_out c cc0_stg2_0 _
  have h3 : stg c cc0_stg3_0 (iblk m c 3 t0_0) ⊢ whole (F := F) (stgM 1) c (kvOf m c 1) := stg_out c cc0_stg3_0 _
  have h4 : stg c cc0_stg4_0 (iblk m c 4 t0_0) ⊢ whole (F := F) woM c (insOf m c).wo := stg_out c cc0_stg4_0 _
  have h5 (X : outM.view.ty.Contents (Elt F)) : stg c cc0_stg5_0 X ⊢ whole (F := F) outM c X := stg_out c cc0_stg5_0 _
  unfold bodyPre rest Bufs
  iintro ⟨⟨HX, Hs, Hr⟩, HO, ⟨%d0, H0⟩, ⟨%d1, H1⟩, ⟨%d2, H2⟩, ⟨%d3, H3⟩, ⟨%d4, H4⟩, ⟨%d5, H5⟩⟩
  rw [before_0, before_1, before_2, before_3, before_4]
  iexists ((dat0 m c).before 5 t0_0 d5)
  isplitr [Hr]
  · isplitl [HX]; · iexact HX
    isplitl [HO]; · iapply (owesAt_elim (dat0 m c) _ (O₀ c) (owed_first m c)) $$ HO
    isplitl [Hs]; · iexact Hs
    isplitl [H0]; · iapply h0 $$ H0
    isplitl [H1]; · iapply h1 $$ H1
    isplitl [H2]; · iapply h2 $$ H2
    isplitl [H3]; · iapply h3 $$ H3
    isplitl [H4]; · iapply h4 $$ H4
    iapply (h5 _) $$ H5
  iexact Hr

theorem post_in (c : Dev nD) : iprop(((semVal (barCell c) 0 ∗ semsPart c) ∗ Ow c 0 ∗ Bufs (kvOf m) c (insOf m c) (resOf m c)) ∗ ∃ r, prngReg c r)
    ⊢ bodyPost m c := by
  have h0 : whole (F := F) xM c (insOf m c).x ⊢ stg c cc0_stg0_0 (iblk m c 0 t0_0) := stg_in c cc0_stg0_0 _
  have h1 : whole (F := F) wqM c (insOf m c).wq ⊢ stg c cc0_stg1_0 (iblk m c 1 t0_0) := stg_in c cc0_stg1_0 _
  have h2 : whole (F := F) (stgM 0) c (kvOf m c 0) ⊢ stg c cc0_stg2_0 (iblk m c 2 t0_0) := stg_in c cc0_stg2_0 _
  have h3 : whole (F := F) (stgM 1) c (kvOf m c 1) ⊢ stg c cc0_stg3_0 (iblk m c 3 t0_0) := stg_in c cc0_stg3_0 _
  have h4 : whole (F := F) woM c (insOf m c).wo ⊢ stg c cc0_stg4_0 (iblk m c 4 t0_0) := stg_in c cc0_stg4_0 _
  have h5 : whole (F := F) outM c (resOf m c) ⊢ stg c cc0_stg5_0 (resOf m c) := stg_in c cc0_stg5_0 _
  unfold bodyPost rest Bufs
  iintro ⟨⟨Hv, HO, Hs, H0, H1, H2, H3, H4, H5⟩, Hr⟩
  isplitl [Hv Hs Hr]
  · isplitl [Hv]; · iexact Hv
    isplitl [Hs] <;> iassumption
  isplitl [HO]; · iapply (owesAt_intro (dat0 m c) t0_0.succ 0 (owed_last m c) rfl) $$ HO
  isplitl [H0]; · iapply h0 $$ H0
  isplitl [H1]; · iapply h1 $$ H1
  isplitl [H2]; · iapply h2 $$ H2
  isplitl [H3]; · iapply h3 $$ H3
  isplitl [H4]; · iapply h4 $$ H4
  iapply h5 $$ H5

theorem body_whole (c : Dev nD) : bodyPre m c ⊢ WP c theBody (fun _ => bodyPost m c) := by
  have hrun (f : Buf (Elt F) (outM.view.loc (c : Thread nD τ))) :
      iprop((Xk m c ∗ Ow c (O₀ c) ∗ Bufs (kvOf m) c (insOf m c) f) ∗ ∃ r, prngReg c r) ⊢ WP c theBody (fun _ => bodyPost m c) :=
    ((sep_mono_left (body_run m c f)).trans (wp_frame_r _ _ _)).trans (wp_mono _ _ _ fun _ => post_in m c)
  refine (pre_out m c).trans ?_
  iintro ⟨%f, H⟩
  iapply (hrun f) $$ H

/-- The region's body obligation. -/
theorem body_ob (c : Dev nD) : BodyObligation (dat0 m c) defs₀ 𝒱₀ () Set.univ := fun t => by
  obtain rfl := fin_N0 t
  rw [bigSep_W0, bigSep_W0]
  simp only [owns_whole_eq]
  exact body_whole m c

theorem cellOf_pin : Function.Injective (Pipeline.cellOf (nD := nD) (τ := τ) (Pipeline.pin (pcfgs (F := F)) adm)) := cellOf_inj

theorem kitP : Pipeline.PLaunchFacts (nD := nD) (τ := τ) (pcfgs (F := F)) 0 := launch0.toP

theorem hopen (c : Dev nD) : iprop(Tk m c ∗ Pipeline.ownSems0 osem c ∗ levAts L lv) ⊢ (|={Set.univ}=> Xk m c : sProp 𝕄) := by
  unfold Tk Xk Entry
  rw [show (Pipeline.ownSems0 osem c : sProp 𝕄) = bigSep Finset.univ fun x : KS => semVal (ocell c x) 0 from rfl]
  iintro ⟨⟨%κ, #HI, #HB, #Hr, Hc, Ho, Ht, Hl⟩, Hs, #HL⟩
  have hp : iprop((bigSep Finset.univ fun x : KS => openTok ER (ocell c x)) ∗ bigSep Finset.univ fun x : KS => semVal (ocell c x) 0)
      ⊢ (bigSep Finset.univ fun x : KS => iprop(openTok ER (ocell c x) ∗ semVal (ocell c x) 0) : sProp 𝕄) := Entails.of_eq (bigSep_sep' _ _ _).symm
  ihave Hp := hp $$ [Ho Hs]
  · isplitl [Ho] <;> iassumption
  imod (open_sems (kvOf m) κ c) $$ [Hp] with ⟨#Hreached, Hg⟩
  · isplitr; · iexact HI
    iexact Hp
  imodintro
  iexists κ
  isplitr
  · isplitr; · iexact HI
    isplitr
    · iapply (open_all c)
      isplitr; · iexact Hr
      iexact Hreached
    isplitr; · iexact HB
    iexact HL
  isplitl [Hc]; · iexact Hc
  isplitl [Ht]; · iexact Ht
  isplitl [Hl]; · iexact Hl
  iexact Hg

theorem rest_eq (c : Dev nD) : (rest c : sProp 𝕄) = iprop(Pipeline.scopedRest spec0 c ∗ ∃ r, prngReg c r) := by
  unfold rest scr
  rw [scopedRest0_eq]

end Cert.KernelIdeal.Attn
-- ==== Proof.Segs.lean ====
/-
# The program as segments

The nine stretches of host operations and the region after them.
-/
module

public import proofs.«01_k».proof.Proof.Region

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

open Idealize.ShloMosaic.Pipeline (Dat BodyObligation)

variable (m : (ℓ : Loc nD τ sig) → Buf (Elt F) ℓ) (ρ : Dev nD → PrngReg)

/-! ## What the buffers hold between the stretches -/

def W0 (c : Dev nD) : Valuation τ sig (Elt F) := fun b => m (c, b)
def W1 (c : Dev nD) : Valuation τ sig (Elt F) := StableHlo.after hostOps0 (W0 m c)
def W2 (c : Dev nD) : Valuation τ sig (Elt F) := StableHlo.after hostOps0_1 (W1 m c)
def W3 (c : Dev nD) : Valuation τ sig (Elt F) := StableHlo.after hostOps0_2 (W2 m c)
def W4 (c : Dev nD) : Valuation τ sig (Elt F) := StableHlo.after hostOps0_3 (W3 m c)
def W5 (c : Dev nD) : Valuation τ sig (Elt F) := StableHlo.after hostOps0_4 (W4 m c)
def W6 (c : Dev nD) : Valuation τ sig (Elt F) := StableHlo.after hostOps0_5 (W5 m c)
def W7 (c : Dev nD) : Valuation τ sig (Elt F) := StableHlo.after hostOps0_6 (W6 m c)
def W8 (c : Dev nD) : Valuation τ sig (Elt F) := StableHlo.after hostOps0_7 (W7 m c)
def W9 (c : Dev nD) : Valuation τ sig (Elt F) := StableHlo.after hostOps0_8 (W8 m c)

theorem W9_eq (c : Dev nD) (b : Ref sig .tc) : W9 m c (Proc.devRef .tc b) = V m c b := by
  unfold W9 W8 W7 W6 W5 W4 W3 W2 W1 W0 V
  simp only [List.flatten_cons, List.flatten_nil, List.append_nil, StableHlo.after_append]

/-- The result array after the region. -/
def resArr (c : Dev nD) : (Proc.devRef .tc main_v17 : DevRef τ sig).ty.Contents (Elt F) := (dat0 m c).arrAt 5 cfg0.N
/-- What the buffers hold after the region. -/
def W10 (c : Dev nD) : Valuation τ sig (Elt F) := Function.update (W9 m c) (Proc.devRef .tc main_v17) (resArr m c)

theorem W10_res (c : Dev nD) : W10 m c (Proc.devRef .tc main_v17) = resArr m c := Function.update_self ..
theorem W10_other (c : Dev nD) (b : Ref sig .tc) (h : b ≠ main_v17) : W10 m c (Proc.devRef .tc b) = V m c b :=
  (Function.update_of_ne (StableHlo.devRef_ne_of_ne h) _ _).trans (W9_eq m c b)

/-! ## The region -/

theorem arr_enter (c : Dev nD) (w : Fin 6) : (dat0 m c).arrAt w 0 = W9 m c (Proc.devRef .tc (Pipeline.arrRef spec0 w)) :=
  (W9_eq m c (Pipeline.arrRef spec0 w)).symm

theorem arr_leave (c : Dev nD) : ∀ w : Fin 6, (dat0 m c).arrAt w cfg0.N = W10 m c (Proc.devRef .tc (Pipeline.arrRef spec0 w))
  | 0 => ((dat0 m c).arrAt_in 0 rfl _).trans (W10_other m c main_arg0 (by decide)).symm
  | 1 => ((dat0 m c).arrAt_in 1 rfl _).trans (W10_other m c main_v1 (by decide)).symm
  | 2 => ((dat0 m c).arrAt_in 2 rfl _).trans (W10_other m c main_v9 (by decide)).symm
  | 3 => ((dat0 m c).arrAt_in 3 rfl _).trans (W10_other m c main_v16 (by decide)).symm
  | 4 => ((dat0 m c).arrAt_in 4 rfl _).trans (W10_other m c main_v2 (by decide)).symm
  | 5 => (W10_res m c).symm

/-- What is owed sits above the staging semaphores. -/
theorem owed_above {c : Dev nD} {g : GSem nD τ sig} {u : Unit} (h : 0 < O₀ c g u) : u ∈ L g ∧ (0 : ℕ) < lv g u := by
  have hO : RecvOnly (OS c) := RecvOnly.OS c
  have hb (p : Dev nD) (h : 0 < ob c p g u) : u ∈ L g ∧ (0 : ℕ) < lv g u := by
    unfold ob at h
    split at h
    · exact absurd h (Nat.lt_irrefl 0)
    · rw [tallyAt_apply] at h
      split at h
      · next hg =>
        obtain ⟨rfl, -⟩ := hg
        exact ⟨by rw [L_tc]; exact Finset.mem_singleton_self _, by dsimp only [lv]; rw [if_pos rfl]; decide⟩
      · exact absurd h (Nat.lt_irrefl 0)
  unfold O₀ at h
  simp only [Pi.add_apply, Finsupp.add_apply, Nat.add_pos_iff_pos_or_pos] at h
  rcases h with (((h | h) | h) | h) | h
  · obtain ⟨j, t, s, rfl⟩ := hO g u h
    exact ⟨by rw [L_tc]; exact Finset.mem_singleton_self _,
      by dsimp only [lv]; rw [if_neg (fun h => by cases h), if_pos (isRecv_recv j s)]; decide⟩
  all_goals exact hb _ h

theorem cutD (c : Dev nD) (t : Fin (cfg0.N + 1)) (g : GSem nD τ sig) (i : Unit) (h : 0 < (dat0 m c).owed t g i) : i ∈ L g ∧ (0 : ℕ) < lv g i := by
  have e : (dat0 m c).owed t = if t.val = 0 then O₀ c else 0 := rfl
  rw [e] at h
  split at h
  · exact owed_above h
  · exact absurd h (Nat.lt_irrefl 0)

theorem stage_low : ∀ (w : Fin 6) (s : Fin ((spec0 w).nbuf)), isRecv (.dma ((spec0 w).sem s)) = false := by decide

theorem hin (c : Dev nD) : iprop(Pipeline.scopedRest (Pipeline.pin (pcfgs (F := F)) adm 0).spec c ∗ (∃ r, prngReg c r) ∗ StableHlo.held (c.tc : Thread nD τ) ∅ (W9 m c) ∗ Xk m c)
    ⊢ (pdats m 0 c).Φ 0 := by
  rw [show (pdats m 0 c).Φ 0 = iprop(Xk m c ∗ rest c) from rfl, rest_eq]
  iintro ⟨Hs, Hp, -, HX⟩
  isplitl [HX]; · iexact HX
  isplitl [Hs]; · iexact Hs
  iexact Hp

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (W10 m c) ∗ Pipeline.ownSems0 osem c ∗ Yk c) := by
  rw [show (pdats m 0 c).Φ (Fin.last _) = iprop((semVal (barCell c) 0 ∗ semsPart c) ∗ rest c) from rfl, rest_eq, show (Pipeline.ownSems0 osem c : sProp 𝕄) = semsPart c from rfl]
  unfold Yk StableHlo.held
  rw [BI.bigSep_empty]
  iintro ⟨⟨Hb, Hv⟩, Hs, Hp⟩
  isplitl [Hs]; · iexact Hs
  isplitl [Hp]; · iexact Hp
  isplitr; · iempintro
  isplitl [Hv]; · iexact Hv
  iexact Hb

local notation "ℝ𝕊" => Pipeline.RegionSeg (pcfgs (F := F)) adm (pdats m) () defs₀ 𝒱₀ L lv

/-- The buffers the region's windows do not name. -/
abbrev others : Finset (DevRef τ sig) := Pipeline.ucRefs τ sig \ Pipeline.arrRefs spec0

theorem arr_unscoped : ∀ w : Fin 6, (Pipeline.arrRef spec0 w).isScoped = false := by decide
theorem arr_sub : (Pipeline.arrRefs spec0 : Finset (DevRef τ sig)) ⊆ Pipeline.ucRefs τ sig := Pipeline.arrRefs_sub_ucRefs spec0 arr_unscoped
theorem res_arr : (Proc.devRef .tc main_v17 : DevRef τ sig) ∈ (Pipeline.arrRefs spec0 : Finset (DevRef τ sig)) :=
  Finset.mem_map.mpr ⟨main_v17, Finset.mem_image.mpr ⟨5, Finset.mem_univ _, rfl⟩, rfl⟩

theorem others_same (c : Dev nD) : ∀ b ∈ others \ ∅, W10 m c b = W9 m c b := fun b hb => by
  refine Function.update_of_ne (fun h => ?_) _ _
  subst h
  rw [Finset.sdiff_empty] at hb
  exact (Finset.mem_sdiff.mp hb).2 res_arr

set_option backward.isDefEq.respectTransparency.types false in
/-- The region as a segment. -/
def reg : ℝ𝕊 0 :=
  Pipeline.RegionSeg.ofTalk (pcfgs (F := F)) adm (pdats m) () defs₀ 𝒱₀ L lv 0 osem (by decide : Pipeline.OwnSemFacts spec0 osem)
    ∅ others (Finset.empty_subset _) kitP rfl (fun c => (body_ob m c).loose)
    (fun _ => 0) O₀ (fun c => (owed_zero m c).trans (zero_add _).symm) (owed_last m) (fun _ => rfl) (fun c w => by unfold Dat.share; split <;> rfl)
    (W9 m) (W10 m) (others_same m)
    (Tk m) Yk (Xk m) Yk (hopen m) (hin m) (hout m)
    (fun c => by iintro H; imodintro; iexact H)
    (fun _ => 0)
    ⟨fun c w s => by rw [L_tc]; exact Finset.mem_singleton_self _,
      fun c w s => by dsimp only [lv]; rw [if_neg (fun h => by cases h), if_neg (by rw [show isRecv _ = false from stage_low w s]; decide)],
      fun c t g i h => cutD m c t g i h⟩
    (fun _ => iprop(emp))
    (arr_enter m) (arr_leave m)

/-- What rides beside the buffers up to the region. -/
def Ride (c : Dev nD) : sProp 𝕄 := iprop(Tk m c ∗ (∃ r, prngReg c r) ∗ Ow c (O₀ c))

theorem reg_pre (c : Dev nD) : iprop(StableHlo.held (c : Thread nD τ) (Pipeline.ucRefs τ sig) (W9 m c) ∗ Ride m c) ⊢ (reg m).pre c := by
  show _ ⊢ iprop(StableHlo.held (c.tc : Thread nD τ) (Pipeline.arrRefs (τ := τ) spec0) (W9 m c) ∗ (∃ r, prngReg c r)
    ∗ (StableHlo.held (c.tc : Thread nD τ) others (W9 m c) ∗ emp) ∗ Tk m c ∗ ∃ Wd, owes (c : Thread nD τ) (0 + O₀ c) Wd)
  rw [StableHlo.held_sub_split (c.tc : Thread nD τ) arr_sub (W9 m c), zero_add]
  unfold Ride Ow
  iintro ⟨⟨Ha, Ho⟩, HT, Hp, HO⟩
  isplitl [Ha]; · iexact Ha
  isplitl [Hp]; · iexact Hp
  isplitl [Ho]
  · isplitl [Ho]; · iexact Ho
    iempintro
  isplitl [HT]; · iexact HT
  iexact HO

theorem reg_post (c : Dev nD) : (reg m).post c
    ⊢ iprop((StableHlo.held (c : Thread nD τ) (Pipeline.ucRefs τ sig) (W10 m c) ∗ semVal (barCell c) 0) ∗ ∃ W, owes (c : Thread nD τ) (0 : CellTallies nD τ sig Unit) W) := by
  show iprop(StableHlo.held (c.tc : Thread nD τ) (Pipeline.arrRefs (τ := τ) spec0) (W10 m c) ∗ (∃ r, prngReg c r)
    ∗ (StableHlo.held (c.tc : Thread nD τ) others (W10 m c) ∗ emp) ∗ Yk c ∗ ∃ Wd, owes (c : Thread nD τ) (0 : CellTallies nD τ sig Unit) Wd) ⊢ _
  rw [StableHlo.held_sub_split (c.tc : Thread nD τ) arr_sub (W10 m c)]
  unfold Yk
  iintro ⟨Ha, -, ⟨Ho, -⟩, Hb, HO⟩
  isplitr [HO]
  · isplitr [Hb]
    · isplitl [Ha] <;> iassumption
    iexact Hb
  iexact HO

/-! ## The host stretches -/

local notation "ℍ" => Pipeline.HostSeg (Name := ℕ) (U := UU) (pcfgs (F := F)) defs₀ 𝒱₀ L lv

/-- A stretch of host operations as a segment. -/
def host (ops : List (HloOp τ sig (Elt F))) (hs : ops.Forall fun op => op.bufs ⊆ StableHlo.tcRefs τ sig) (hf : ops.Forall fun op => op.fresh = ∅)
    (W : Dev nD → Valuation τ sig (Elt F)) : ℍ :=
  Pipeline.HostSeg.ofOps _ _ _ _ _ (Pipeline.ucRefs τ sig) ops (fun op h => Pipeline.sub_ucRefs op (List.forall_iff_forall_mem.mp hs op h))
    (List.forall_iff_forall_mem.mp hf) W (Ride m)

/-- The program. -/
def segs : List (Pipeline.Seg (pcfgs (F := F)) adm (pdats m) () defs₀ 𝒱₀ L lv) :=
  [.host (host m hostOps0 hostOps0_sub hostOps0_fresh (W0 m)), .host (host m hostOps0_1 hostOps0_1_sub hostOps0_1_fresh (W1 m)),
   .host (host m hostOps0_2 hostOps0_2_sub hostOps0_2_fresh (W2 m)), .host (host m hostOps0_3 hostOps0_3_sub hostOps0_3_fresh (W3 m)),
   .host (host m hostOps0_4 hostOps0_4_sub hostOps0_4_fresh (W4 m)), .host (host m hostOps0_5 hostOps0_5_sub hostOps0_5_fresh (W5 m)),
   .host (host m hostOps0_6 hostOps0_6_sub hostOps0_6_fresh (W6 m)), .host (host m hostOps0_7 hostOps0_7_sub hostOps0_7_fresh (W7 m)),
   .host (host m hostOps0_8 hostOps0_8_sub hostOps0_8_fresh (W8 m)), .region (reg m)]

theorem main_eq (c : Dev nD) : main (F := F) c = Pipeline.Seg.run (segs m) := by
  rw [main_chain, Pipeline.Seg.run_eq_chain]; rfl

end Cert.KernelIdeal.Attn
-- ==== Proof.Credit.lean ====
/-
# The credit of the launch

What all devices together owe a semaphore of one device.
-/
module

public import proofs.«01_k».proof.Proof.Begin
public import Idealize.ShloMosaic.Lib.Pipeline.Regions

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

theorem recv_inj : ∀ (j j' : Fin 2) (s s' : Dev nD), recvS j s = recvS j' s' → j = j' ∧ s = s' := by decide

theorem recv_ne_bar (j : Fin 2) (c s p : Dev nD) : recvCell j c s ≠ barCell p := fun h => by
  have h2 : (SemLoc.dma (recvS j s) : SemLoc sig) = .reg barS := congrArg Prod.snd h
  cases h2

theorem ob_bar (d p c : Dev nD) : ob d p (barCell c) () = if p ≠ d ∧ c = p then 1 else 0 := by
  unfold ob
  by_cases h : p = d
  · rw [if_pos h, if_neg (fun hh => hh.1 h)]; rfl
  · rw [if_neg h, tallyAt_apply]
    by_cases e : c = p
    · subst e; rw [if_pos ⟨rfl, rfl⟩, if_pos ⟨h, rfl⟩]
    · rw [if_neg (fun hh => e (congrArg (fun g : GSem nD τ sig => g.1.1) hh.1)), if_neg (fun hh => e hh.2)]

theorem ob_recv (d p c : Dev nD) (j : Fin 2) (s : Dev nD) : ob d p (recvCell j c s) () = 0 := by
  unfold ob
  by_cases h : p = d
  · rw [if_pos h]; rfl
  · rw [if_neg h, tallyAt_apply, if_neg (fun hh => recv_ne_bar j c s p hh.1)]

theorem OS_bar (d c : Dev nD) : OS d (barCell c) () = 0 := by
  by_contra h
  obtain ⟨j, t, s, e⟩ := RecvOnly.OS d (barCell c) () (Nat.pos_of_ne_zero h)
  exact recv_ne_bar j t s c e.symm

theorem os_recv (d s t : Dev nD) (j : Fin 2) (c u : Dev nD) : os d s t (recvCell j c u) () = N * if d = s ∧ c = t ∧ u = s then 1 else 0 := by
  have one (k : Fin 2) : (tallyAt (recvCell k t s) () N : CellTallies nD τ sig Unit) (recvCell j c u) () = N * if j = k ∧ c = t ∧ u = s then 1 else 0 := by
    rw [tallyAt_apply]
    by_cases h : j = k ∧ c = t ∧ u = s
    · obtain ⟨rfl, rfl, rfl⟩ := h
      rw [if_pos ⟨rfl, rfl⟩, if_pos ⟨rfl, rfl, rfl⟩, Nat.mul_one]
    · rw [if_neg h, Nat.mul_zero, if_neg]
      intro hh
      have h1 : c = t := congrArg (fun g : GSem nD τ sig => g.1.1) hh.1
      have h2 : (SemLoc.dma (recvS j u) : SemLoc sig) = .dma (recvS k s) := congrArg Prod.snd hh.1
      have h3 := recv_inj j k u s (SemLoc.dma.inj h2)
      exact h ⟨h3.1, h1, h3.2⟩
  unfold os
  by_cases hd : d = s
  · rw [if_pos hd, Pi.add_apply, Finsupp.add_apply, one 1, one 0, ← Nat.mul_add]
    congr 1
    fin_cases j <;> simp [hd]
  · rw [if_neg hd, if_neg (fun hh => hd hh.1)]; rfl

theorem owed_bar (d c : Dev nD) : O₀ d (barCell c) () = if d = c then 0 else 1 := by
  unfold O₀
  simp only [Pi.add_apply, Finsupp.add_apply, OS_bar, ob_bar]
  revert d c; decide

theorem owed_recv (d : Dev nD) (j : Fin 2) (c u : Dev nD) : O₀ d (recvCell j c u) () = N * if d = u ∧ u < c then 1 else 0 := by
  unfold O₀ OS
  simp only [Pi.add_apply, Finsupp.add_apply, ob_recv, os_recv, Nat.add_zero]
  rw [show (0 : CellTallies nD τ sig Unit) (recvCell j c u) () = N * 0 from rfl]
  simp only [← Nat.mul_add]
  congr 1
  revert d c u; decide

/-- Each device is signalled by the three others. -/
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

/-- A slot is filled by its one sender, when that sits below the receiver. -/
theorem launch_recv (j : Fin 2) (c u : Dev nD) :
    tallyOn (recvCell j c u) (launchCredit (Pipeline.owing O₀) 0 (recvCell j c u)) = (tallyAt (recvCell j c u) () (N * if u < c then 1 else 0) : CellTallies nD τ sig Unit) := by
  unfold tallyAt; refine congrArg _ (Finsupp.ext fun x => ?_); cases x
  rw [Pipeline.launchCredit_owing, Finsupp.single_eq_same, Finset.sum_congr rfl fun d _ => owed_recv d j c u, ← Finset.mul_sum]
  congr 1
  revert c u; decide

/-- The semaphores credited at launch. -/
def recvEmb : Fin 2 × Dev nD ↪ SemLoc sig :=
  ⟨fun x => .dma (recvS x.1 x.2), fun x y h => Prod.ext (recv_inj _ _ _ _ (SemLoc.dma.inj h)).1 (recv_inj _ _ _ _ (SemLoc.dma.inj h)).2⟩

theorem lcred_in (j : Fin 2) (c u : Dev nD) : (cred (tallyOn (recvCell j c u) (launchCredit (Pipeline.owing O₀) 0 (recvCell j c u))) : sProp 𝕄) ⊢ lcred j c u := by
  rw [launch_recv]
  unfold lcred
  by_cases h : u < c
  · rw [if_pos h, if_pos h, Nat.mul_one]
  · rw [if_neg h, if_neg h]
    iintro -
    iempintro

/-- What a device is credited at launch. -/
theorem creds (c : Dev nD) :
    (Pipeline.launchCred O₀ c : sProp 𝕄) ⊢ iprop(cred (tallyAt (barCell c) () 3) ∗ (bigSep Finset.univ (lcred 0 c) ∗ bigSep Finset.univ (lcred 1 c))) := by
  unfold Pipeline.launchCred
  rw [bigSep_univ_at _ (SemLoc.reg barS), launch_bar]
  refine sep_mono_right ?_
  have hsub : Finset.univ.map recvEmb ⊆ Finset.univ.erase (SemLoc.reg barS : SemLoc sig) := fun x hx => by
    obtain ⟨y, -, rfl⟩ := Finset.mem_map.mp hx
    exact Finset.mem_erase.mpr ⟨fun h => (nomatch h), Finset.mem_univ _⟩
  refine (bigSep_subset hsub).trans ?_
  rw [bigSep_map, bigSep_univ_prod, bigSep_univ_two]
  exact sep_mono (bigSep_mono fun u _ => lcred_in 0 c u) (bigSep_mono fun u _ => lcred_in 1 c u)

end Cert.KernelIdeal.Attn
-- ==== Proof.Launch.lean ====
/-
# The launch

The funding of the protocol, its dealing among the devices, and the run of the program.
-/
module

public import proofs.«01_k».proof.Proof.Segs
public import proofs.«01_k».proof.Proof.Credit
public import Idealize.ShloMosaic.Lib.Pipeline.FrameTail

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

open Idealize.ShloMosaic.Pipeline (Dat BodyObligation)

variable (m : (ℓ : Loc nD τ sig) → Buf (Elt F) ℓ) (ρ : Dev nD → PrngReg)

/-! ## The cells and the tokens -/

theorem osem_inj : Function.Injective osem := by decide
theorem osem_ne_bar : ∀ x : KS, osem x ≠ .reg barS := by decide

def barEmb : Dev nD ↪ GSem nD τ sig := ⟨fun c => barCell c, fun _ _ h => congrArg (fun g : GSem nD τ sig => g.1.1) h⟩
def copyEmb : Dev nD × KS ↪ GSem nD τ sig :=
  ⟨fun cx => ocell cx.1 cx.2, fun _ _ h => Prod.ext (congrArg (fun g : GSem nD τ sig => g.1.1) h) (osem_inj (congrArg Prod.snd h))⟩

/-- The barrier cells, funded with their counters, -/
abbrev barCells : Finset (GSem nD τ sig) := Finset.univ.map barEmb
/-- and the cells of the copies, funded without. -/
abbrev copyCells : Finset (GSem nD τ sig) := Finset.univ.map copyEmb

/-- The device of the cell of a duty of `c` to `p`, -/
def tdev (c p : Dev nD) : Fin 5 → Dev nD
  | 0 => p | 1 => c | 2 => p | 3 => c | 4 => p
/-- and its semaphore. -/
def tsem (c p : Dev nD) : Fin 5 → SemLoc sig
  | 0 => .reg barS | 1 => .dma (sendS 0 p) | 2 => .dma (recvS 0 c) | 3 => .dma (sendS 1 p) | 4 => .dma (recvS 1 c)

theorem duty_inj : ∀ (c p p' : Dev nD) (k k' : Fin 5), tdev c p k = tdev c p' k' → tsem c p k = tsem c p' k' → p = p' ∧ k = k' := by
  decide +kernel

def tokEmb : Dev nD × Dev nD × Fin 5 ↪ GSem nD τ sig × ℕ × Dev nD :=
  ⟨fun x => (((tdev x.1 x.2.1 x.2.2 : Thread nD τ), tsem x.1 x.2.1 x.2.2), 0, x.1), fun x y h => by
    obtain ⟨c, p, k⟩ := x
    obtain ⟨c', p', k'⟩ := y
    have h1 : c = c' := congrArg (fun t : GSem nD τ sig × ℕ × Dev nD => t.2.2) h
    subst h1
    obtain ⟨rfl, rfl⟩ := duty_inj c p p' k k' (congrArg (fun t : GSem nD τ sig × ℕ × Dev nD => t.1.1.1) h)
      (congrArg (fun t : GSem nD τ sig × ℕ × Dev nD => t.1.2) h)
    rfl⟩
/-- The tokens of all the duties. -/
def allToks : Finset (GSem nD τ sig × ℕ × Dev nD) := Finset.univ.map tokEmb

theorem allToks_eq : bigSep allToks (fun x => (dutyTok ER x.1 x.2.1 x.2.2 : sProp 𝕄)) = bigSep Finset.univ fun c : Dev nD => bigSep Finset.univ (toks c) := by
  unfold allToks
  rw [bigSep_map, bigSep_univ_prod]
  refine bigSep_congr fun c _ => ?_
  rw [bigSep_univ_prod]
  refine bigSep_congr fun p _ => ?_
  unfold toks copyToks
  exact bigSep_univ_eq_bigSepL [(0 : Fin 5), 1, 2, 3, 4] (by decide) (by decide) _

theorem disjoint_cells : Disjoint (barCells : Finset (GSem nD τ sig)) copyCells := by
  rw [Finset.disjoint_left]
  rintro g h₁ h₂
  obtain ⟨c, -, rfl⟩ := Finset.mem_map.mp h₁
  obtain ⟨x, -, h⟩ := Finset.mem_map.mp h₂
  exact osem_ne_bar x.2 (congrArg Prod.snd h)

theorem bar_mem (c : Dev nD) : barCell c ∈ (barCells ∪ copyCells : Finset (GSem nD τ sig)) :=
  Finset.mem_union_left _ (Finset.mem_map_of_mem barEmb (Finset.mem_univ c))
theorem copy_mem (c : Dev nD) (x : KS) : ocell c x ∈ (barCells ∪ copyCells : Finset (GSem nD τ sig)) :=
  Finset.mem_union_right _ (Finset.mem_map_of_mem copyEmb (Finset.mem_univ (c, x)))
theorem cell_mem (c : Dev nD) (k : Fin 17) : kcell c k ∈ (barCells ∪ copyCells : Finset (GSem nD τ sig)) := by
  rcases csem_osem k with rfl | ⟨x, hx⟩
  · exact bar_mem c
  · rw [show kcell c k = ocell c x from congrArg (Prod.mk (c : Thread nD τ)) hx]; exact copy_mem c x

/-- A family of pairs as two families, -/
theorem apart (Φ Ψ : Dev nD → sProp 𝕄) : bigSep Finset.univ (fun c => iprop(Φ c ∗ Ψ c)) ⊢ iprop(bigSep Finset.univ Φ ∗ bigSep Finset.univ Ψ) :=
  Entails.of_eq (bigSep_sep' _ _ _)
/-- and back. -/
theorem together (Φ Ψ : Dev nD → sProp 𝕄) : iprop(bigSep Finset.univ Φ ∗ bigSep Finset.univ Ψ) ⊢ bigSep Finset.univ (fun c => iprop(Φ c ∗ Ψ c)) :=
  Entails.of_eq (bigSep_sep' _ _ _).symm

/-! ## The funding -/

/-- The launch element: the staging cells' and the protocol's. -/
def u₀ : UU :=
  (initOf (Pipeline.cells (Pipeline.pin (pcfgs (F := F)) adm) cellOf_pin) (Pipeline.launchToks (Pipeline.pin (pcfgs (F := F)) adm) cellOf_pin),
    launchOf barCells copyCells allToks)

/-- The protocol's part, all of it on device 0. -/
def G (c : Dev nD) : sProp 𝕄 := if c = 0 then BI.own (ER (launchOf barCells copyCells allToks)) else iprop(emp)

theorem G_all : bigSep Finset.univ (G (F := F)) ⊢ (BI.own (ER (launchOf barCells copyCells allToks)) : sProp 𝕄) := by
  refine (bigSep_elim (Finset.mem_univ (0 : Dev nD))).trans ?_
  unfold G; rw [if_pos rfl]
  exact Entails.refl _
theorem G_intro : (BI.own (ER (launchOf barCells copyCells allToks)) : sProp 𝕄) ⊢ bigSep Finset.univ (G (F := F)) := by
  rw [bigSep_univ_at _ (0 : Dev nD)]
  have h : (bigSep (Finset.univ.erase (0 : Dev nD)) (G (F := F)) : sProp 𝕄) = iprop(emp) :=
    (bigSep_congr fun c hc => by unfold G; rw [if_neg (Finset.ne_of_mem_erase hc)]).trans (bigSep_none _)
  rw [h, sep_emp']
  unfold G; rw [if_pos rfl]

/-- What every device may consult: all the invariants, and that round 0 of every barrier cell is reached. -/
def records (κ : GSem nD τ sig → ℕ) : sProp 𝕄 :=
  iprop((bigSep (barCells ∪ copyCells) fun g => cellInv ER (Rd (kvOf m)) (κ g) g) ∗ bigSep barCells fun g => reached ER g 0)
instance records_persistent (κ : GSem nD τ sig → ℕ) : BI.Persistent (records m κ) := by unfold records; infer_instance

theorem records_invs (κ : GSem nD τ sig → ℕ) : (bigSep (barCells ∪ copyCells) fun g => (cellInv ER (Rd (kvOf m)) (κ g) g : sProp 𝕄)) ⊢ invs (kvOf m) κ := by
  unfold invs
  exact bigSep_intro_persistent fun c _ => bigSep_intro_persistent fun k _ => bigSep_elim (cell_mem c k)
theorem records_open : (bigSep barCells fun g => (reached ER g 0 : sProp 𝕄)) ⊢ openBar (F := F) := by
  unfold openBar
  exact Entails.of_eq (bigSep_map (s := Finset.univ) barEmb (Φ := fun g : GSem nD τ sig => (reached ER g 0 : sProp 𝕄)))

/-- What of the funding stays with a device. -/
def linear (c : Dev nD) : sProp 𝕄 :=
  iprop(atPos ER (barCell c) 0 ∅ 0 ∗ (bigSep Finset.univ fun x : KS => openTok ER (ocell c x)) ∗ bigSep Finset.univ (toks c))
/-- What of its launch holdings is not of the funding. -/
def bundle (c : Dev nD) : sProp 𝕄 :=
  iprop(StableHlo.held (c : Thread nD τ) (Pipeline.ucRefs τ sig) (W0 m c)
    ∗ (cred (tallyAt (barCell c) () 3) ∗ (bigSep Finset.univ (lcred 0 c) ∗ bigSep Finset.univ (lcred 1 c)))
    ∗ owes (c : Thread nD τ) (O₀ c) ∅ ∗ ∃ r, prngReg c r)

abbrev T₀ (c : Dev nD) : sProp 𝕄 := iprop(StableHlo.held (c : Thread nD τ) (Pipeline.ucRefs τ sig) (W0 m c) ∗ Ride m c)
abbrev Tₙ (c : Dev nD) : sProp 𝕄 := iprop(StableHlo.held (c : Thread nD τ) (Pipeline.ucRefs τ sig) (W10 m c) ∗ semVal (barCell c) 0)

theorem T₀_intro (κ : GSem nD τ sig → ℕ) (c : Dev nD) : iprop(records m κ ∗ (linear c ∗ bundle m c)) ⊢ T₀ m c := by
  unfold records linear bundle T₀ Ride Tk Ow
  iintro ⟨⟨#HI, #HR⟩, ⟨Ha, Ho, Ht⟩, Hh, ⟨Hc, Hl⟩, HO, Hp⟩
  have hb : openBar (F := F) ⊢ reached ER (barCell c) 0 := open_bar c
  isplitl [Hh]; · iexact Hh
  isplitr [HO Hp]
  · iexists κ
    isplitr; · iapply (records_invs m κ); iexact HI
    isplitr; · iapply (records_open (F := F)); iexact HR
    isplitr; · iapply hb; iapply (records_open (F := F)); iexact HR
    isplitl [Hc Ha]; · isplitl [Hc] <;> iassumption
    isplitl [Ho]; · iexact Ho
    isplitl [Ht]; · iexact Ht
    iexact Hl
  isplitl [Hp]; · iexact Hp
  iexists ∅; iexact HO

theorem unscopedSems_bar (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- What a device is launched with, sorted. -/
theorem launched (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(bundle m c ∗ (semVal (barCell c) 0 ∗ G c)) : sProp 𝕄) := by
  rw [show unscopedBufs c (fun b => m ((c : Thread nD τ).loc b)) = StableHlo.held (c : Thread nD τ) (Pipeline.ucRefs τ sig) (W0 m c) from Pipeline.unscopedBufs_held c (W0 m c),
    unscopedSems_bar]
  unfold bundle
  iintro ⟨Hh, Hus, HO, Hcr, Hp, HG⟩
  isplitl [Hh HO Hcr Hp]
  · isplitl [Hh]; · iexact Hh
    isplitl [Hcr]; · iapply (creds (F := F) c) $$ Hcr
    isplitl [HO]; · iexact HO
    iexists (ρ c); iexact Hp
  isplitl [Hus] <;> iassumption

/-- The dealing at launch. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hsort : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp 𝕄) := bigSep_mono fun c _ => launched m ρ c
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep copyCells (fun g => (openTok ER g : sProp 𝕄))
      ⊢ bigSep Finset.univ (fun c : Dev nD => bigSep Finset.univ fun x : KS => (openTok ER (ocell c x) : sProp 𝕄)) :=
    Entails.of_eq (by rw [bigSep_map, bigSep_univ_prod]; rfl)
  iintro ⟨H, -⟩
  ihave H' := hsort $$ H
  ihave H2 := (apart (bundle m) fun c => iprop(semVal (barCell c) 0 ∗ G c)) $$ H'; icases H2 with ⟨HB, H3⟩
  ihave H4 := (apart (fun c => semVal (barCell c) 0) G) $$ H3; icases H4 with ⟨Hv, HG⟩
  ihave Hu := (G_all (F := F)) $$ HG
  imod (Rounds.fund_launch ER (Rd (kvOf m)) disjoint_cells (fun g _ h => h) allToks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(linear c ∗ bundle m c)) fun c _ => T₀_intro m κ c)
  isplitr
  · unfold records
    isplitr; · iexact Hinv
    iexact Hr
  iapply (together linear (bundle m))
  isplitr [HB]
  · unfold linear
    iapply (together _ _); isplitl [Hat]; · iapply hat $$ Hat
    iapply (together _ _); isplitl [Hopen]; · iapply hopen $$ Hopen
    iapply (Entails.of_eq (allToks_eq (F := F))) $$ Htok
  · iexact HB

/-! ## The run -/

theorem unscoped_eq : ∀ sm : SemLoc sig, sm.isScoped .tc = false → sm = .reg barS := by decide

theorem hbm_mem (b : Ref sig .tc) (h : b.isScoped = false) : (Proc.devRef .tc b : DevRef τ sig) ∈ Pipeline.ucRefs τ sig := Pipeline.devRef_mem_ucRefs h

set_option backward.isDefEq.respectTransparency.types false in
/-- From any memory with zero counters every fair execution of the program on the four devices ends, with each
    unscoped buffer at the contents `W10` and every semaphore counter at zero. -/
theorem run_bufs : θ_run defs (onTc (τ := τ) (main (F := F))) (s₀ m ρ)
    (fun r => (∀ c : Dev nD, ∀ b ∈ Pipeline.ucRefs τ sig, r.2.mem (c, b) = W10 m c b) ∧ r.2.sem = fun _ => 0) :=
  Pipeline.θ_run_regions_kit_sems (pcfgs (F := F)) adm (pdats m) () cellOf_pin EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      iapply (G_intro (F := F)) $$ HX)
    (T₀ := T₀ m) (Tₙ := Tₙ m)
    (hch := ⟨fun c => .rfl, fun c => .rfl, fun c => .rfl, fun c => .rfl, fun c => .rfl, fun c => .rfl, fun c => .rfl, fun c => .rfl, fun c => .rfl,
      fun c => reg_pre m c, fun c => reg_post m c⟩)
    (hinit := init m ρ)
    (QY := fun c s => (∀ b ∈ Pipeline.ucRefs τ sig, s.mem (c, b) = W10 m c b) ∧ s.sem (barCell c) = 0)
    (hfin := fun c s' => by
      dsimp only [Tₙ]
      have hread : iprop(StableHlo.held (c : Thread nD τ) (Pipeline.ucRefs τ sig) (W10 m c) ∗ SI s')
          ⊢ (iprop(⌜∀ b ∈ Pipeline.ucRefs τ sig, s'.mem.mem (c, b) = W10 m c b⌝ ∗ SI s') : sProp 𝕄) :=
        pointsTo_read_all (Pipeline.ucRefs τ sig) (fun b => (c, b)) (fun b => W10 m c b) s'
      iintro ⟨⟨Hh, Hb0⟩, HSI⟩
      icombine HSI Hb0 gives %hb
      ihave H := hread $$ [Hh HSI]
      · isplitl [Hh] <;> iassumption
      icases H with ⟨%hm, HSI⟩
      imodintro
      isplitr
      · ipureintro
        exact ⟨hm, by simpa using hb⟩
      iexact HSI)
    (hQ := fun s h hs => ⟨fun c => (h c).1,
      sem_eq_zero hs fun c sm hsm => by
        obtain rfl := unscoped_eq sm hsm
        exact (h c).2⟩)

end Cert.KernelIdeal.Attn
-- ==== Proof.Frames.lean ====
/- The two frames of the kernel: every device runs to its end, its argument arrays are as they
   were, and every semaphore counter is zero again. Both come from `run_bufs`, which is stated over
   any float instance: at the extended reals for the idealised program, and at bit patterns, with
   the mask read as its own bit pattern, for the program as printed. -/
module

public import proofs.«01_k».proof.Defs
public import proofs.«01_k».proof.Proof.Launch
public import proofs.«01_k».proof.Proof.Gen.Kernel
public import proofs.«01_k».proof.Proof.Gen.KernelIdeal

@[expose] public section

noncomputable section

namespace Cert.KernelIdeal.Attn

open Idealize.ShloMosaic Idealize.SL.Sem Cert.KernelIdeal

/-- At bit patterns a named constant is its own bit pattern: the reading under which the idealised
    program's text is the printed program's. -/
@[reducible] def plainNamed : Named Bits where
  named _ _ bits := FloatOps.ofBits bits

attribute [local instance] plainNamed

/-- At bit patterns the two programs have the same main function, -/
theorem main_same : Cert.Kernel.main (F := Bits) = Cert.KernelIdeal.main (F := Bits) := rfl

/-- the same kernel bodies, -/
theorem defs₀_same : Cert.Kernel.defs₀ (F := Bits) = Cert.KernelIdeal.defs₀ (F := Bits) := by
  refine congrArg Defs.onTc ?_
  funext l a
  match l, a with
  | 0, (t, s) => rfl

/-- and so the same table of bodies. -/
theorem defs_same : Cert.Kernel.defs (F := Bits) = Cert.KernelIdeal.defs (F := Bits) :=
  congrArg (Pipeline.defs _) defs₀_same

/-- A final memory that holds `W10` on every array holds every argument as it was. -/
theorem args_same {F : FTy → Type} [FloatOps F] [Named F] (m mem : (ℓ : Loc nD τ sig) → Buf (Elt F) ℓ) (c : Dev nD)
    (h : ∀ b ∈ Pipeline.ucRefs τ sig, mem (c, b) = W10 m c b) :
    mem ((c.tc : Thread nD τ).loc main_arg0) = m ((c.tc : Thread nD τ).loc main_arg0)
    ∧ mem ((c.tc : Thread nD τ).loc main_arg1) = m ((c.tc : Thread nD τ).loc main_arg1)
    ∧ mem ((c.tc : Thread nD τ).loc main_arg2) = m ((c.tc : Thread nD τ).loc main_arg2)
    ∧ mem ((c.tc : Thread nD τ).loc main_arg3) = m ((c.tc : Thread nD τ).loc main_arg3)
    ∧ mem ((c.tc : Thread nD τ).loc main_arg4) = m ((c.tc : Thread nD τ).loc main_arg4) :=
  ⟨(h _ (hbm_mem _ rfl)).trans ((W10_other m c _ (by decide)).trans (Gen.V_main_arg0 m c)),
   (h _ (hbm_mem _ rfl)).trans ((W10_other m c _ (by decide)).trans (Gen.V_main_arg1 m c)),
   (h _ (hbm_mem _ rfl)).trans ((W10_other m c _ (by decide)).trans (Gen.V_main_arg2 m c)),
   (h _ (hbm_mem _ rfl)).trans ((W10_other m c _ (by decide)).trans (Gen.V_main_arg3 m c)),
   (h _ (hbm_mem _ rfl)).trans ((W10_other m c _ (by decide)).trans (Gen.V_main_arg4 m c))⟩

/-- The kernel's frame over any float instance. -/
theorem frame_any {F : FTy → Type} [FloatOps F] [Named F]
    (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => args_same m r.2.mem c (h.1 c), h.2⟩) (run_bufs m ρ)

/-- The idealised kernel's frame. -/
theorem frame_kernelIdeal : Cert.quiescent_KernelIdeal := fun m ρ _ => frame_any (F := Ideal) m ρ

/-- The printed kernel's frame. -/
theorem frame_kernel : Cert.quiescent_Kernel := by
  intro m ρ _
  rw [defs_same, main_same]
  exact frame_any (F := Bits) m ρ

end Cert.KernelIdeal.Attn

end
-- ==== Proof.Sums.lean ====
/-
# Sums over the keys

The real-number side of the attention: sums over a device's keys put together into the sum over all of them, and the
softmax without its shift by the maximum.
-/
module

public import Idealize.ShloMosaic.PureOps.Ideal
public import Idealize.ShloMosaic.Lib.Pointwise

@[expose] public section

noncomputable section

namespace Cert.Attention

open Idealize.ShloMosaic

/-- A sum of reals, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over the first `W` of `N` places is a sum over all of them with the others left out. -/
theorem sum_prefix {N W : ℕ} (h : W ≤ N) (f : Fin N → ℝ) : ∑ x : Fin W, f (Fin.castLE h x) = ∑ j : Fin N, if j.val < W then f j else 0 := by
  let G : ℕ → ℝ := fun n => if hn : n < N then f ⟨n, hn⟩ else 0
  have e1 : ∑ x : Fin W, f (Fin.castLE h x) = ∑ n ∈ Finset.range W, G n := by
    rw [← Fin.sum_univ_eq_sum_range]
    refine Finset.sum_congr rfl fun x _ => ?_
    show _ = dite _ _ _
    rw [dif_pos (lt_of_lt_of_le x.isLt h)]; rfl
  have e2 : (∑ j : Fin N, if j.val < W then f j else 0) = ∑ n ∈ Finset.range N, if n < W then G n else 0 := by
    rw [← Fin.sum_univ_eq_sum_range (fun n => if n < W then G n else 0)]
    refine Finset.sum_congr rfl fun x _ => ?_
    show (if x.val < W then f x else 0) = if x.val < W then (if hn : x.val < N then f ⟨x.val, hn⟩ else 0) else 0
    rw [dif_pos x.isLt]
  rw [e1, e2, ← Finset.sum_filter]
  refine Finset.sum_congr (Finset.ext fun n => ?_) fun _ _ => rfl
  simp only [Finset.mem_range, Finset.mem_filter]
  omega

/-- Key `j` of device `s`, among all keys. -/
def at4 (s : Fin 4) (j : Fin 256) : Fin 1024 := ⟨s.val * 256 + j.val, by omega⟩

theorem sum_at4 (f : Fin 1024 → ℝ) : ∑ g : Fin 1024, f g = ∑ s : Fin 4, ∑ j : Fin 256, f (at4 s j) := by
  rw [← Fintype.sum_prod_type', ← (finProdFinEquiv (m := 4) (n := 256)).sum_comp (fun g : Fin (4 * 256) => f g)]
  refine Finset.sum_congr rfl fun p _ => congrArg f (Fin.ext ?_)
  show p.2.val + 256 * p.1.val = p.1.val * 256 + p.2.val
  omega

/-- The keys of device `s` that row `r` of device `c` sees. -/
theorem seen_part (c s : Fin 4) (r : Fin 256) (E : Fin 1024 → ℝ) :
    (∑ j : Fin 256, if (at4 s j).val / 64 ≤ (at4 c r).val / 64 then E (at4 s j) else 0)
      = if s = c then ∑ j : Fin 256, (if j.val / 64 ≤ r.val / 64 then E (at4 c j) else 0) else if s < c then ∑ j : Fin 256, E (at4 s j) else 0 := by
  have hv (s : Fin 4) (j : Fin 256) : (at4 s j).val = s.val * 256 + j.val := rfl
  split
  · next h =>
    subst h
    refine Finset.sum_congr rfl fun j _ => if_congr ?_ rfl rfl
    rw [hv, hv]; omega
  · next h =>
    have h' : s.val ≠ c.val := fun e => h (Fin.ext e)
    split
    · next hl =>
      have hl' : s.val < c.val := hl
      refine Finset.sum_congr rfl fun j _ => if_pos ?_
      rw [hv, hv]; omega
    · next hl =>
      have hl' : ¬ s.val < c.val := hl
      refine Finset.sum_eq_zero fun j _ => if_neg ?_
      rw [hv, hv]; omega

/-- A device's own keys and those of the devices before it, in the kernel's order, are the keys that its row sees. -/
theorem seen_sum (c : Fin 4) (r : Fin 256) (E : Fin 1024 → ℝ) :
    (∑ j : Fin 256, if j.val / 64 ≤ r.val / 64 then E (at4 c j) else 0) + (if 2 < c then ∑ j, E (at4 2 j) else 0)
        + (if 0 < c then ∑ j, E (at4 0 j) else 0) + (if 1 < c then ∑ j, E (at4 1 j) else 0)
      = ∑ g : Fin 1024, if g.val / 64 ≤ (at4 c r).val / 64 then E g else 0 := by
  rw [sum_at4 (fun g => if g.val / 64 ≤ (at4 c r).val / 64 then E g else 0)]
  simp only [seen_part, Fin.sum_univ_four]
  fin_cases c <;> simp <;> ring

/-- The softmax with a shift, weighting values scaled by 1/32, is the weighted sum without it. -/
theorem softmax_shift {ι : Type} [Fintype ι] (p : ι → Prop) [DecidablePred p] (s v : ι → ℝ) (M : ℝ) :
    ∑ i, (v i / 32) * ((if p i then Real.exp (s i - M) else 0) / ∑ i', if p i' then Real.exp (s i' - M) else 0)
      = (∑ i, if p i then Real.exp (s i) * v i else 0) * ((1 / 32) * (1 / ∑ i, if p i then Real.exp (s i) else 0)) := by
  have e (i : ι) : (if p i then Real.exp (s i - M) else 0) = (if p i then Real.exp (s i) else 0) / Real.exp M := by
    split
    · rw [Real.exp_sub]
    · rw [zero_div]
  simp only [e]
  rw [← Finset.sum_div, Finset.sum_mul]
  refine Finset.sum_congr rfl fun i _ => ?_
  have hM := Real.exp_ne_zero M
  rw [div_div_div_cancel_right₀ hM]
  split <;> ring

/-- The sum of the visible weights is positive where a key is visible. -/
theorem weight_pos {ι : Type} [Fintype ι] (p : ι → Prop) [DecidablePred p] (s : ι → ℝ) (i : ι) (h : p i) :
    0 < ∑ i, if p i then Real.exp (s i) else 0 := by
  refine lt_of_lt_of_le (Real.exp_pos (s i)) ?_
  have := Finset.single_le_sum (f := fun i => if p i then Real.exp (s i) else 0)
    (fun j _ => by show 0 ≤ ite _ _ _; split <;> first | exact (Real.exp_pos _).le | exact le_rfl) (Finset.mem_univ i)
  simpa [h] using this

/-- The patterns of the constants, as numbers. -/
theorem bits_32 : Ideal.ofBits .f32 0x42000000#32 = ((32 : ℝ) : EReal) := by
  simp [Ideal.ofBits, Ideal.ieee, -EReal.coe_mul]; norm_num
theorem bits_32th : Ideal.ofBits .f32 0x3D000000#32 = ((1 / 32 : ℝ) : EReal) := by
  simp [Ideal.ofBits, Ideal.ieee, -EReal.coe_mul]; norm_num
theorem bits_8th : Ideal.ofBits .f32 0x3E000000#32 = ((1 / 8 : ℝ) : EReal) := by
  simp [Ideal.ofBits, Ideal.ieee, -EReal.coe_mul]; norm_num
theorem bits_256th : Ideal.ofBits .f32 0x3B800000#32 = ((1 / 256 : ℝ) : EReal) := by
  simp [Ideal.ofBits, Ideal.ieee, -EReal.coe_mul]; norm_num
theorem bits_inf : Ideal.ofBits .f32 0x7F800000#32 = (⊤ : EReal) := by
  simp [Ideal.ofBits, Ideal.ieee]
theorem bits_neg_inf : Ideal.ofBits .f32 0xFF800000#32 = (⊥ : EReal) := by
  simp [Ideal.ofBits, Ideal.ieee]

/-! ## The attention, over the reals -/

/-- Column `d` of head `h`. -/
def head (h : Fin 4) (d : Fin 64) : Fin 256 := ⟨h.val * 64 + d.val, by omega⟩
/-- The projected activations. -/
def prj (X : Fin 512 → ℝ) (W : Fin 512 → Fin 256 → ℝ) (e : Fin 256) : ℝ := ∑ k, X k * W k e
/-- A score, from a row's projection and a key's codes. -/
def score (Q K : Fin 64 → ℝ) : ℝ := (∑ d, Q d * K d) / 256
/-- The attention of the row at position `g`, with scores `s` and value codes `v`. -/
def attend (g : Fin 1024) (s v : Fin 1024 → ℝ) : ℝ :=
  (∑ j : Fin 1024, if j.val / 64 ≤ g.val / 64 then Real.exp (s j) * v j else 0)
    * ((1 / 32) * (1 / ∑ j : Fin 1024, if j.val / 64 ≤ g.val / 64 then Real.exp (s j) else 0))

theorem attend_pos (g : Fin 1024) (s : Fin 1024 → ℝ) : 0 < ∑ j : Fin 1024, if j.val / 64 ≤ g.val / 64 then Real.exp (s j) else 0 :=
  weight_pos (fun j : Fin 1024 => j.val / 64 ≤ g.val / 64) s g le_rfl

/-! ## The codes -/

/-- The code of a number: 32 times it, rounded and clipped. -/
def level (z : EReal) : ℤ := (Ideal.fptosi 32 (min ((127 : ℝ) : EReal) (max ((-127 : ℝ) : EReal) (Ideal.liftRound Ideal.roundHalfEven (z * ((32 : ℝ) : EReal)))))).toInt

/-- A whole number between -127 and 127 survives the conversions to 32 and to 8 bits. -/
theorem int_kept : ∀ n : ℤ, -127 ≤ n → n ≤ 127 → (BitVec.ofInt 32 n).toInt = n ∧ ((BitVec.ofInt 32 n).truncate 8).toInt = n := by
  intro n h1 h2
  have : ∀ k : Fin 255, (BitVec.ofInt 32 ((k.val : ℤ) - 127)).toInt = (k.val : ℤ) - 127 ∧ ((BitVec.ofInt 32 ((k.val : ℤ) - 127)).truncate 8).toInt = (k.val : ℤ) - 127 := by decide
  have := this ⟨(n + 127).toNat, by omega⟩
  rwa [show (((⟨(n + 127).toNat, by omega⟩ : Fin 255).val : ℕ) : ℤ) - 127 = n by show ((n + 127).toNat : ℤ) - 127 = n; omega] at this

theorem clip_whole (y : EReal) : ∃ n : ℤ, -127 ≤ n ∧ n ≤ 127 ∧ min ((127 : ℝ) : EReal) (max ((-127 : ℝ) : EReal) (Ideal.liftRound Ideal.roundHalfEven y)) = ((n : ℝ) : EReal) := by
  have h : (-127 : ℝ) ≤ 127 := by norm_num
  induction y using EReal.rec with
  | bot => exact ⟨-127, le_rfl, by norm_num, by
    rw [Ideal.liftRound_bot, max_eq_left bot_le, min_eq_right (EReal.coe_le_coe_iff.mpr h)]; norm_num⟩
  | top => exact ⟨127, by norm_num, le_rfl, by simp⟩
  | coe r =>
    refine ⟨min 127 (max (-127) (Ideal.roundHalfEven r)), by omega, by omega, ?_⟩
    rw [Ideal.liftRound_coe]
    push_cast
    rw [EReal.coe_strictMono.monotone.map_min, EReal.coe_strictMono.monotone.map_max, EReal.coe_neg]

theorem fptosi_whole (n : ℤ) (h1 : -127 ≤ n) (h2 : n ≤ 127) : Ideal.fptosi 32 ((n : ℝ) : EReal) = BitVec.ofInt 32 n := by
  unfold Ideal.fptosi
  rw [Ideal.toIntClamped_coe]
  congr 1
  rw [Int.floor_intCast, Int.ceil_intCast, ite_self]
  norm_num
  omega

/-- The clipped number is its code, -/
theorem level_clip (z : EReal) : min ((127 : ℝ) : EReal) (max ((-127 : ℝ) : EReal) (Ideal.liftRound Ideal.roundHalfEven (z * ((32 : ℝ) : EReal)))) = ((level z : ℝ) : EReal) := by
  obtain ⟨n, h1, h2, hn⟩ := clip_whole (z * ((32 : ℝ) : EReal))
  unfold level
  rw [hn, fptosi_whole n h1 h2, (int_kept n h1 h2).1]
/-- and so are its 8 bits. -/
theorem level_bits (z : EReal) : ((Ideal.fptosi 32 (min ((127 : ℝ) : EReal) (max ((-127 : ℝ) : EReal) (Ideal.liftRound Ideal.roundHalfEven (z * ((32 : ℝ) : EReal)))))).truncate 8).toInt = level z := by
  obtain ⟨n, h1, h2, hn⟩ := clip_whole (z * ((32 : ℝ) : EReal))
  unfold level
  rw [hn, fptosi_whole n h1 h2, (int_kept n h1 h2).1, (int_kept n h1 h2).2]

end Cert.Attention
-- ==== Proof.Cells.lean ====
/-
# The kernel's vector values at an index

Each vector that the kernel computes, read at an index, at the ideal values.
-/
module

public import proofs.«01_k».proof.Proof.Out
public import proofs.«01_k».proof.Proof.Sums
public import Idealize.ShloMosaic.Lib.Pointwise

@[expose] public section

noncomputable section

namespace Cert.KernelIdeal.Attn

open Cert.KernelIdeal Cert.KernelIdeal.Gen Cert.Attention

open Idealize.ShloMosaic

set_option maxRecDepth 16384

/-- A code as a real. -/
abbrev cod (w : BitVec 8) : ℝ := (w.toInt : ℝ)

/-- The scaled projection at an index. -/
theorem pay1_apply (x : Vec Ideal S1x256x512 .f32) (w : Vec Ideal S512x256 .bf16) (r g : Fin 256) (X : Fin 512 → ℝ) (W : Fin 512 → Fin 256 → ℝ)
    (hx : ∀ k, x (ix3 0 r k) = (X k : EReal)) (hw : ∀ k e, w (ix2 k e) = (W k e : EReal)) :
    k0_pay1 x w (ix2 r g) = ((prj X W g / 256 : ℝ) : EReal) := by
  pointwise [k0_pay1]
  simp only [hx, hw]
  rw [show (998244352#32) = 0x3B800000#32 from rfl, bits_256th]
  simp only [← EReal.coe_mul, ← coe_sum]
  exact congrArg _ (by rw [prj]; ring)

/-- A head's columns at an index. -/
theorem qOf_apply (Q : FVec Ideal S256x256 .bf16) (h : Fin 4) (r : Fin 256) (d : Fin 64) : qOf Q h (ix2 r d) = Q (ix2 r (head h d)) := by
  fin_cases h <;> (pointwise [qOf]; try rfl)
  all_goals exact congrArg (fun e => Q (ix2 r e)) (Fin.ext (by simp [head]))

/-- The product of a row with the codes of a key. -/
theorem dot_coe (q : Fin 64 → EReal) (Q : Fin 64 → ℝ) (hq : ∀ d, q d = (Q d : EReal)) (k : Fin 64 → BitVec 8) :
    ∑ d, q d * (FloatOps.sitofp (F := Ideal) .bf16 (k d) : EReal) = ((∑ d, Q d * cod (k d) : ℝ) : EReal) := by
  rw [coe_sum]
  refine Finset.sum_congr rfl fun d _ => ?_
  rw [hq, EReal.coe_mul]; rfl

section Own
variable (q : FVec Ideal S256x64 .bf16) (k : Vec Ideal S1x1x64x256 .i8) (r : Fin 256) (Q : Fin 64 → ℝ) (hq : ∀ d, q (ix2 r d) = (Q d : EReal))
include hq

/-- The weight of an own key. -/
abbrev ownW (Q : Fin 64 → ℝ) (k : Vec Ideal S1x1x64x256 .i8) (j : Fin 256) : ℝ := Real.exp (∑ d, Q d * cod (k (ix4 0 0 d j)))

/-- A slice of 64 rows, at the row that `r` is in it. -/
theorem rows_apply (o : ℕ) (hs : S256x64.Slices ![o, 0] S64x64) (r' : Fin 64) (h : o + r'.val = r.val) (d : Fin 64) :
    extractStridedSlice S64x64 ![o, 0] q hs (ix2 r' d) = (Q d : EReal) := by
  refine (extractStridedSlice_apply _ q hs (ix2 r' d) (ix2 r d) fun a => ?_).trans (hq d)
  match a with
  | 0 => exact h.symm
  | 1 => exact (Nat.zero_add _).symm

theorem pay49_apply (r' : Fin 64) (h : 0 + r'.val = r.val) (x : Fin 64) : k0_pay49 q k (ix2 r' x) = (ownW Q k (Fin.castLE (by decide) x) : EReal) := by
  obtain ⟨q', e, hq'⟩ : ∃ q', extractStridedSlice S64x64 ![0, 0] q slices_S256x64_o0_0_S64x64 = q' ∧ ∀ d, q' (ix2 r' d) = (Q d : EReal) :=
    ⟨_, rfl, rows_apply q r Q hq 0 _ r' h⟩
  simp only [k0_pay49, e]
  pointwise [k0_pay48]
  rw [dot_coe _ Q hq', Ideal.exp_coe]; rfl
theorem pay50_apply (r' : Fin 64) (h : 64 + r'.val = r.val) (x : Fin 128) : k0_pay50 q k (ix2 r' x) = (ownW Q k (Fin.castLE (by decide) x) : EReal) := by
  obtain ⟨q', e, hq'⟩ : ∃ q', extractStridedSlice S64x64 ![64, 0] q slices_S256x64_o64_0_S64x64 = q' ∧ ∀ d, q' (ix2 r' d) = (Q d : EReal) :=
    ⟨_, rfl, rows_apply q r Q hq 64 _ r' h⟩
  simp only [k0_pay50, e]
  pointwise [k0_pay48]
  rw [dot_coe _ Q hq', Ideal.exp_coe]; rfl
theorem pay51_apply (r' : Fin 64) (h : 128 + r'.val = r.val) (x : Fin 192) : k0_pay51 q k (ix2 r' x) = (ownW Q k (Fin.castLE (by decide) x) : EReal) := by
  obtain ⟨q', e, hq'⟩ : ∃ q', extractStridedSlice S64x64 ![128, 0] q slices_S256x64_o128_0_S64x64 = q' ∧ ∀ d, q' (ix2 r' d) = (Q d : EReal) :=
    ⟨_, rfl, rows_apply q r Q hq 128 _ r' h⟩
  simp only [k0_pay51, e]
  pointwise [k0_pay48]
  rw [dot_coe _ Q hq', Ideal.exp_coe]; rfl
theorem pay52_apply (r' : Fin 64) (h : 192 + r'.val = r.val) (x : Fin 256) : k0_pay52 q k (ix2 r' x) = (ownW Q k (Fin.castLE (by decide) x) : EReal) := by
  obtain ⟨q', e, hq'⟩ : ∃ q', extractStridedSlice S64x64 ![192, 0] q slices_S256x64_o192_0_S64x64 = q' ∧ ∀ d, q' (ix2 r' d) = (Q d : EReal) :=
    ⟨_, rfl, rows_apply q r Q hq 192 _ r' h⟩
  simp only [k0_pay52, e]
  pointwise [k0_pay48]
  rw [dot_coe _ Q hq', Ideal.exp_coe]; rfl

omit hq in
/-- The first `W` of a row's terms are those its block sees. -/
theorem prefix_seen {W : ℕ} (hW : W ≤ 256) (h : ∀ j : Fin 256, j.val < W ↔ j.val / 64 ≤ r.val / 64) (f : Fin 256 → ℝ) :
    ∑ x : Fin W, ((f (Fin.castLE hW x) : ℝ) : EReal) = ((∑ j : Fin 256, if j.val / 64 ≤ r.val / 64 then f j else 0 : ℝ) : EReal) := by
  rw [← coe_sum, sum_prefix hW f]
  exact congrArg _ (Finset.sum_congr rfl fun j _ => if_congr (h j) rfl rfl)

/-- A row's sum over its own keys, -/
theorem pay53_apply : k0_pay53 q k (ix2 r 0) = ((∑ j : Fin 256, if j.val / 64 ≤ r.val / 64 then ownW Q k j else 0 : ℝ) : EReal) := by
  pointwise [k0_pay53]
  split
  · simp only [pay49_apply q k r Q hq ⟨r.val, by omega⟩ (Nat.zero_add _)]
    exact prefix_seen r (by decide) (fun j => by omega) (ownW Q k)
  split
  · simp only [pay50_apply q k r Q hq ⟨r.val - 64, by omega⟩ (by show 64 + (r.val - 64) = r.val; omega)]
    exact prefix_seen r (by decide) (fun j => by omega) (ownW Q k)
  split
  · simp only [pay51_apply q k r Q hq ⟨r.val - 64 - 64, by omega⟩ (by show 128 + (r.val - 64 - 64) = r.val; omega)]
    exact prefix_seen r (by decide) (fun j => by omega) (ownW Q k)
  · simp only [pay52_apply q k r Q hq ⟨r.val - 64 - 64 - 64, by omega⟩ (by show 192 + (r.val - 64 - 64 - 64) = r.val; omega)]
    exact prefix_seen r (by decide) (fun j => by omega) (ownW Q k)

/-- and its weighted sum of them. -/
theorem pay54_apply (v : Vec Ideal S1x1x64x256 .i8) (d : Fin 64) :
    k0_pay54 q k v (ix2 r d) = ((∑ j : Fin 256, if j.val / 64 ≤ r.val / 64 then ownW Q k j * cod (v (ix4 0 0 d j)) else 0 : ℝ) : EReal) := by
  have hs (x : Fin 256) : (FloatOps.sitofp (F := Ideal) .bf16 (v (ix4 0 0 d x)) : EReal) = ((cod (v (ix4 0 0 d x)) : ℝ) : EReal) := rfl
  pointwise [k0_pay54, k0_pay48]
  simp only [hs]
  split
  · simp only [pay49_apply q k r Q hq ⟨r.val, by omega⟩ (Nat.zero_add _), ← EReal.coe_mul]
    exact prefix_seen r (by decide) (fun j => by omega) (fun j => ownW Q k j * cod (v (ix4 0 0 d j)))
  split
  · simp only [pay50_apply q k r Q hq ⟨r.val - 64, by omega⟩ (by show 64 + (r.val - 64) = r.val; omega), ← EReal.coe_mul]
    exact prefix_seen r (by decide) (fun j => by omega) (fun j => ownW Q k j * cod (v (ix4 0 0 d j)))
  split
  · simp only [pay51_apply q k r Q hq ⟨r.val - 64 - 64, by omega⟩ (by show 128 + (r.val - 64 - 64) = r.val; omega), ← EReal.coe_mul]
    exact prefix_seen r (by decide) (fun j => by omega) (fun j => ownW Q k j * cod (v (ix4 0 0 d j)))
  · simp only [pay52_apply q k r Q hq ⟨r.val - 64 - 64 - 64, by omega⟩ (by show 192 + (r.val - 64 - 64 - 64) = r.val; omega), ← EReal.coe_mul]
    exact prefix_seen r (by decide) (fun j => by omega) (fun j => ownW Q k j * cod (v (ix4 0 0 d j)))

/-- The weight of a key of another device. -/
abbrev slotW (Q : Fin 64 → ℝ) (k : Vec Ideal S1x1x1x64x256 .i8) (j : Fin 256) : ℝ := Real.exp (∑ d, Q d * cod (k (ix5 0 0 0 d j)))

theorem pay105_apply (p : Prop) [Decidable p] (v : BitVec 1) (hv : v = if p then 1#1 else 0#1) (k : Vec Ideal S1x1x1x64x256 .i8) (j : Fin 256) :
    k0_pay105 v q k (ix2 r j) = ((if p then slotW Q k j else 0 : ℝ) : EReal) := by
  pointwise [k0_pay105]
  rw [dot_coe _ Q hq, show (Named.named κ "mask" 3463342888#32 : Ideal .f32) = (⊥ : EReal) from rfl]
  by_cases hp : p
  · rw [hv, if_pos hp, if_pos hp]; rfl
  · rw [hv, if_neg hp, if_neg hp]; rfl

/-- A row's sum after a stage, -/
theorem pay106_apply (p : Prop) [Decidable p] (v : BitVec 1) (hv : v = if p then 1#1 else 0#1) (l : FVec Ideal S256x1 .f32) (L : ℝ)
    (hl : l (ix2 r 0) = (L : EReal)) (k : Vec Ideal S1x1x1x64x256 .i8) :
    k0_pay106 l v q k (ix2 r 0) = ((L + if p then ∑ j, slotW Q k j else 0 : ℝ) : EReal) := by
  pointwise [k0_pay106]
  simp only [pay105_apply q r Q hq p v hv]
  rw [← coe_sum, hl, ← EReal.coe_add]
  by_cases hp : p
  · simp only [if_pos hp]
  · simp only [if_neg hp, Finset.sum_const_zero]

/-- and its weighted sum. -/
theorem pay114_apply (p : Prop) [Decidable p] (v : BitVec 1) (hv : v = if p then 1#1 else 0#1) (a : FVec Ideal S256x64 .f32) (A : ℝ) (d : Fin 64)
    (ha : a (ix2 r d) = (A : EReal)) (k w : Vec Ideal S1x1x1x64x256 .i8) :
    k0_pay114 a v (k0_pay107 v q k) w (ix2 r d) = ((A + if p then ∑ j, slotW Q k j * cod (w (ix5 0 0 0 d j)) else 0 : ℝ) : EReal) := by
  have hs (x : Fin 256) : (FloatOps.sitofp (F := Ideal) .bf16 (w (ix5 0 0 0 d x)) : EReal) = ((cod (w (ix5 0 0 0 d x)) : ℝ) : EReal) := rfl
  pointwise [k0_pay114, k0_pay107]
  simp only [pay105_apply q r Q hq p v hv, hs, ← EReal.coe_mul]
  rw [← coe_sum, ha, hv]
  by_cases hp : p
  · simp only [if_pos hp]; rw [EReal.coe_add]; rfl
  · simp only [if_neg hp]; rw [EReal.coe_add]; rfl

end Own

theorem vis_eq (c s : Dev nD) : vis c s = if s < c then 1#1 else 0#1 := by
  split
  · next h => exact vis_of_lt h
  · next h => exact vis_of_not_lt h

section Head
variable (c : Dev nD) (q : FVec Ideal S256x64 .bf16) (r : Fin 256) (Q : Fin 64 → ℝ) (hq : ∀ d, q (ix2 r d) = (Q d : EReal))
  (ko vo : Vec Ideal S1x1x64x256 .i8) (k w : Dev nD → Vec Ideal S1x1x1x64x256 .i8) (K W : Fin 1024 → Fin 64 → ℝ)
  (hko : ∀ d j, cod (ko (ix4 0 0 d j)) = K (at4 c j) d) (hk : ∀ s d j, cod (k s (ix5 0 0 0 d j)) = K (at4 s j) d)
  (hvo : ∀ d j, cod (vo (ix4 0 0 d j)) = W (at4 c j) d) (hw : ∀ s d j, cod (w s (ix5 0 0 0 d j)) = W (at4 s j) d)
include hq hko hk

/-- A head's denominators, over all the keys a row sees. -/
theorem lOf_apply : lOf (vis c) q ko k (ix2 r 0)
    = ((∑ g : Fin 1024, if g.val / 64 ≤ (at4 c r).val / 64 then Real.exp (∑ d, Q d * K g d) else 0 : ℝ) : EReal) := by
  unfold lOf
  rw [pay106_apply q r Q hq _ _ (vis_eq c 1) _ _ (pay106_apply q r Q hq _ _ (vis_eq c 0) _ _ (pay106_apply q r Q hq _ _ (vis_eq c 2) _ _ (pay53_apply q ko r Q hq) _) _) _,
    ← seen_sum c r]
  simp only [ownW, slotW, hko, hk]

include hvo hw
/-- A head's numerators, over all the keys a row sees. -/
theorem aOf_apply (d : Fin 64) : aOf (vis c) q ko vo k w (ix2 r d)
    = ((∑ g : Fin 1024, if g.val / 64 ≤ (at4 c r).val / 64 then Real.exp (∑ d, Q d * K g d) * W g d else 0 : ℝ) : EReal) := by
  unfold aOf
  rw [pay114_apply q r Q hq _ _ (vis_eq c 1) _ _ d (pay114_apply q r Q hq _ _ (vis_eq c 0) _ _ d (pay114_apply q r Q hq _ _ (vis_eq c 2) _ _ d
      (pay54_apply q ko r Q hq vo d) _ _) _ _) _ _,
    ← seen_sum c r]
  simp only [ownW, slotW, hko, hk, hvo, hw]

/-- A head's part of the result before its projection. -/
theorem headOf_apply (d : Fin 64) :
    aOf (vis c) q ko vo k w (ix2 r d) * Ideal.div (Ideal.ofBits .f32 0x3D000000#32) (lOf (vis c) q ko k (ix2 r 0))
      = ((attend (at4 c r) (fun g => ∑ d, Q d * K g d) (fun g => W g d) : ℝ) : EReal) := by
  rw [aOf_apply c q r Q hq ko vo k w K W hko hk hvo hw, lOf_apply c q r Q hq ko k K hko hk, bits_32th,
    Ideal.div_coe (attend_pos (at4 c r) _).ne', ← EReal.coe_mul, ← EReal.coe_mul]
  rfl

end Head

/-- The projection of the heads' parts, at an index. -/
theorem pay190_apply (l0 l1 l2 l3 : FVec Ideal S256x1 .f32) (a0 a1 a2 a3 : FVec Ideal S256x64 .f32) (wo : Vec Ideal S256x512 .bf16) (r : Fin 256) (n : Fin 512)
    (C : Fin 4 → Fin 64 → ℝ)
    (h0 : ∀ d, a0 (ix2 r d) * Ideal.div (Ideal.ofBits .f32 0x3D000000#32) (l0 (ix2 r 0)) = (C 0 d : EReal))
    (h1 : ∀ d, a1 (ix2 r d) * Ideal.div (Ideal.ofBits .f32 0x3D000000#32) (l1 (ix2 r 0)) = (C 1 d : EReal))
    (h2 : ∀ d, a2 (ix2 r d) * Ideal.div (Ideal.ofBits .f32 0x3D000000#32) (l2 (ix2 r 0)) = (C 2 d : EReal))
    (h3 : ∀ d, a3 (ix2 r d) * Ideal.div (Ideal.ofBits .f32 0x3D000000#32) (l3 (ix2 r 0)) = (C 3 d : EReal)) :
    k0_pay190 (k0_pay189 l0 l1 l2 l3 a0 a1 a2 a3 wo) (ix3 0 r n)
      = ∑ x : Fin 256, ((C ⟨x.val / 64, by omega⟩ ⟨x.val % 64, by omega⟩ : ℝ) : EReal) * wo (ix2 x n) := by
  pointwise [k0_pay189, k0_pay190]
  refine Finset.sum_congr rfl fun x _ => congrArg (· * wo (ix2 x n)) ?_
  have hC (h h' : Fin 4) (d d' : Fin 64) (e : h.val = h'.val) (e' : d.val = d'.val) : ((C h d : ℝ) : EReal) = ((C h' d' : ℝ) : EReal) := by
    rw [Fin.ext e, Fin.ext e']
  split
  · exact (h0 _).trans (hC _ _ _ _ (by show 0 = x.val / 64; omega) (by show x.val = x.val % 64; omega))
  split
  · exact (h1 _).trans (hC _ _ _ _ (by show 1 = x.val / 64; omega) (by show x.val - 64 = x.val % 64; omega))
  split
  · exact (h2 _).trans (hC _ _ _ _ (by show 2 = x.val / 64; omega) (by show x.val - 64 - 64 = x.val % 64; omega))
  · exact (h3 _).trans (hC _ _ _ _ (by show 3 = x.val / 64; omega) (by show x.val - 64 - 64 - 64 = x.val % 64; omega))

end Cert.KernelIdeal.Attn
-- ==== Proof.Host.lean ====
/-
# What the region finds

The arrays that the host operations before the region leave: the two projections unchanged, and the codes
of the keys and of the values, each read at an index at the ideal values.
-/
module

public import proofs.«01_k».proof.Proof.Cells
public import proofs.«01_k».proof.Proof.Gen.KernelIdeal.Frame

@[expose] public section

noncomputable section

namespace Cert.KernelIdeal.Attn

open Cert.KernelIdeal Cert.KernelIdeal.Gen Cert.Attention

open Idealize.ShloMosaic
open Idealize.ShloMosaic.TcCoe

section Any

variable {F : FTy → Type} [FloatOps F] [Named F]

/-- The codes of an array of numbers, each head's positions along the last axis. -/
def codes (k : FVec F S2x256x4x64 .f32) : IVec S2x4x64x256 8 :=
  transpose S2x4x64x256 [0, 2, 3, 1] (trunci 8 (fptosi 32
    (minimumf (broadcastInDim S2x256x4x64 ![] bcast_S_S2x256x4x64 (sitofp .f32 (constantI S_ 32 127#32)))
      (maximumf (broadcastInDim S2x256x4x64 ![] bcast_S_S2x256x4x64 (sitofp .f32 (constantI S_ 32 4294967169#32)))
        (Host.roundeven (mulf k (broadcastInDim S2x256x4x64 ![] bcast_S_S2x256x4x64 (constant S_ .f32 0x42000000#32))))))) natLt_8_32)
    transposes_S2x256x4x64_S2x4x64x256_0_2_3_1

variable (m : (ℓ : Loc nD τ sig) → Buf (Elt F) ℓ) (c : Dev nD)

/-- The region finds the query projection in the narrow format, -/
theorem V_wq : V m c main_v1 = truncf .bf16 (m ((c : Thread nD τ).loc main_arg1)) bitsLt_bf16_f32 := by
  unfold V
  simp only [hostOps0, hostOps0_1, hostOps0_2, hostOps0_3, hostOps0_4, hostOps0_5, hostOps0_6, hostOps0_7, hostOps0_8, List.flatten_cons, List.flatten_nil, List.append_nil, List.cons_append,
    List.nil_append, StableHlo.TRef.binary, StableHlo.TRef.unary, StableHlo.TRef.toBuf, StableHlo.TRef.ofBuf, cast_eq]
  after_results_simp <;> rfl

/-- the output projection too, -/
theorem V_wo : V m c main_v2 = truncf .bf16 (m ((c : Thread nD τ).loc main_arg4)) bitsLt_bf16_f32 := by
  unfold V
  simp only [hostOps0, hostOps0_1, hostOps0_2, hostOps0_3, hostOps0_4, hostOps0_5, hostOps0_6, hostOps0_7, hostOps0_8, List.flatten_cons, List.flatten_nil, List.append_nil, List.cons_append,
    List.nil_append, StableHlo.TRef.binary, StableHlo.TRef.unary, StableHlo.TRef.toBuf, StableHlo.TRef.ofBuf, cast_eq]
  after_results_simp <;> rfl

/-- the codes of the keys, -/
theorem V_keys : V m c main_v9 = codes (m ((c : Thread nD τ).loc main_arg2)) := by
  unfold V
  simp only [hostOps0, hostOps0_1, hostOps0_2, hostOps0_3, hostOps0_4, hostOps0_5, hostOps0_6, hostOps0_7, hostOps0_8, List.flatten_cons, List.flatten_nil, List.append_nil, List.cons_append,
    List.nil_append, StableHlo.TRef.binary, StableHlo.TRef.unary, StableHlo.TRef.toBuf, StableHlo.TRef.ofBuf, cast_eq]
  after_results_simp <;> rfl

/-- and the codes of the values. -/
theorem V_vals : V m c main_v16 = codes (m ((c : Thread nD τ).loc main_arg3)) := by
  unfold V
  simp only [hostOps0, hostOps0_1, hostOps0_2, hostOps0_3, hostOps0_4, hostOps0_5, hostOps0_6, hostOps0_7, hostOps0_8, List.flatten_cons, List.flatten_nil, List.append_nil, List.cons_append,
    List.nil_append, StableHlo.TRef.binary, StableHlo.TRef.unary, StableHlo.TRef.toBuf, StableHlo.TRef.ofBuf, cast_eq]
  after_results_simp <;> rfl

end Any

/-- A code, read as an integer, is the level of its number. -/
theorem codes_apply (k : FVec Ideal S2x256x4x64 .f32) (b : Fin 2) (h : Fin 4) (d : Fin 64) (j : Fin 256) :
    cod (codes k (ix4 b h d j)) = (level (k (ix4 b j h d)) : ℝ) := by
  pointwise [codes]
  have h1 : (FloatOps.sitofp (F := Ideal) .f32 127#32 : EReal) = ((127 : ℝ) : EReal) := by
    show (((127#32 : BitVec 32).toInt : ℝ) : EReal) = _
    rw [show (127#32 : BitVec 32).toInt = 127 from by decide]; norm_num
  have h2 : (FloatOps.sitofp (F := Ideal) .f32 4294967169#32 : EReal) = ((-127 : ℝ) : EReal) := by
    show (((4294967169#32 : BitVec 32).toInt : ℝ) : EReal) = _
    rw [show (4294967169#32 : BitVec 32).toInt = -127 from by decide]; norm_num
  have h3 : Ideal.ofBits FTy.f32 1107296256#32 = ((32 : ℝ) : EReal) := bits_32
  rw [h1, h2, h3]
  exact congrArg (fun i : ℤ => (i : ℝ)) (level_bits _)

end Cert.KernelIdeal.Attn
-- ==== Proof.Arrays.lean ====
/-
# The region's arrays

The result array is what the body stores, and each block that the region brings in is its whole array.
-/
module

public import proofs.«01_k».proof.Proof.Launch
public import Idealize.ShloMosaic.Lib.Pipeline.ValueKit

@[expose] public section

noncomputable section

namespace Cert.KernelIdeal.Attn

open Cert.KernelIdeal Cert.KernelIdeal.Gen

open Idealize.ShloMosaic
open Idealize.ShloMosaic.TcCoe
open Idealize.ShloMosaic.Pipeline (Dat BodyObligation)

variable {F : FTy → Type} [FloatOps F] [Named F]

variable (m : (ℓ : Loc nD τ sig) → Buf (Elt F) ℓ) (c : Dev nD)

set_option maxRecDepth 16384

/-- The result array ends holding what the body stored. -/
theorem resArr_eq : resArr m c = resOf m c := by
  refine (dat0 m c).arrAt_eq_of_after_last 5 t0_0 (by decide +kernel) _ fun j => ?_
  blk_simp
  rfl

theorem blk_x : iblk m c 0 t0_0 = V m c main_arg0 := by
  funext p; unfold iblk; blk_simp
  refine congrArg _ (funext fun a => Fin.ext ?_)
  have e : ∀ a, win0_0.index t0_0 a = 0 := by decide +kernel
  fin_cases a <;> (blk_simp; rw [e, Nat.zero_mul, Nat.zero_add])
theorem blk_wq : iblk m c 1 t0_0 = V m c main_v1 := by
  funext p; unfold iblk; blk_simp
  refine congrArg _ (funext fun a => Fin.ext ?_)
  have e : ∀ a, win0_1.index t0_0 a = 0 := by decide +kernel
  fin_cases a <;> (blk_simp; rw [e, Nat.zero_mul, Nat.zero_add])
theorem blk_keys : iblk m c 2 t0_0 = V m c main_v9 := by
  funext p; unfold iblk; blk_simp
  refine congrArg _ (funext fun a => Fin.ext ?_)
  have e : ∀ a, win0_2.index t0_0 a = 0 := by decide +kernel
  fin_cases a <;> (blk_simp; rw [e, Nat.zero_mul, Nat.zero_add])
theorem blk_vals : iblk m c 3 t0_0 = V m c main_v16 := by
  funext p; unfold iblk; blk_simp
  refine congrArg _ (funext fun a => Fin.ext ?_)
  have e : ∀ a, win0_3.index t0_0 a = 0 := by decide +kernel
  fin_cases a <;> (blk_simp; rw [e, Nat.zero_mul, Nat.zero_add])
theorem blk_wo : iblk m c 4 t0_0 = V m c main_v2 := by
  funext p; unfold iblk; blk_simp
  refine congrArg _ (funext fun a => Fin.ext ?_)
  have e : ∀ a, win0_4.index t0_0 a = 0 := by decide +kernel
  fin_cases a <;> (blk_simp; rw [e, Nat.zero_mul, Nat.zero_add])

end Cert.KernelIdeal.Attn
-- ==== Proof.RefParts.lean ====
/-
# The reference in parts

The reference's composed result, cut into named parts.
-/
module

public import proofs.«01_k».proof.Proof.Gen.ReferenceIdeal
public import proofs.«01_k».proof.Proof.Gen.ReferenceIdeal.Run

@[expose] public section

noncomputable section

namespace Cert.ReferenceIdeal.Parts

open Cert.ReferenceIdeal Cert.ReferenceIdeal.Gen Idealize.ShloMosaic Idealize.ShloMosaic.TcCoe Idealize.SL.Sem

variable {F : FTy → Type} [FloatOps F]

/-- Numbers quantised to 32nds. -/
def quant (k : FVec F S2x1024x4x64 .f32) : FVec F S2x1024x4x64 .f32 :=
  Host.divf (minimumf (broadcastInDim S2x1024x4x64 ![] bcast_S_S2x1024x4x64 (sitofp .f32 (constantI S_ 32 127#32)))
    (maximumf (broadcastInDim S2x1024x4x64 ![] bcast_S_S2x1024x4x64 (sitofp .f32 (constantI S_ 32 4294967169#32)))
      (Host.roundeven (mulf k (broadcastInDim S2x1024x4x64 ![] bcast_S_S2x1024x4x64 (constant S_ .f32 0x42000000#32))))))
    (broadcastInDim S2x1024x4x64 ![] bcast_S_S2x1024x4x64 (constant S_ .f32 0x42000000#32))

/-- The block of 64 that each position lies in. -/
def block64 : IVec S1024 32 :=
  select (andi (cmpi .ne (signi (iotaInDim S1024 32 0)) (broadcastInDim S1024 ![] bcast_S_S1024 (signi (id (constantI S_ 32 64#32)))))
      (cmpi .ne (Host.remsi (iotaInDim S1024 32 0) (broadcastInDim S1024 ![] bcast_S_S1024 (id (constantI S_ 32 64#32)))) (broadcastInDim S1024 ![] bcast_S_S1024 (constantI S_ 32 0#32))))
    (subi (Host.divsi (iotaInDim S1024 32 0) (broadcastInDim S1024 ![] bcast_S_S1024 (id (constantI S_ 32 64#32)))) (broadcastInDim S1024 ![] bcast_S_S1024 (constantI S_ 32 1#32)))
    (Host.divsi (iotaInDim S1024 32 0) (broadcastInDim S1024 ![] bcast_S_S1024 (id (constantI S_ 32 64#32))))

/-- Which keys each position sees. -/
def mask : IVec S1024x1024 1 :=
  cmpi .sle (broadcastInDim S1024x1024 ![0, 1] bcast_S1x1024_S1024x1024_0_1 (broadcastInDim S1x1024 ![1] bcast_S1024_S1x1024_1 block64))
    (broadcastInDim S1024x1024 ![0, 1] bcast_S1024x1_S1024x1024_0_1 (broadcastInDim S1024x1 ![0] bcast_S1024_S1024x1_0 block64))

/-- Which positions see a key. -/
def some_key : IVec S1x1x1024x1 1 :=
  broadcastInDim S1x1x1024x1 ![2] bcast_S1024_S1x1x1024x1_2 (Host.reduce IntOp.ori mask (constantI S_ 1 0#1) reducesTo_S1024x1024_S1024_d1 h_S_)

/-- The projected activations, head by head. -/
def proj (x : FVec F S2x1024x512 .f32) (wq : FVec F S512x256 .f32) : FVec F S2x1024x4x64 .f32 :=
  shapeCast S2x1024x4x64 (Host.dotGeneral dot_S2x1024x512_S512x256_S2x1024x256_2_0_01_1_n_n none x wq) shapeCasts_S2x1024x256_S2x1024x4x64

/-- The masked scores. -/
def scores (q k : FVec F S2x1024x4x64 .f32) : FVec F S2x4x1024x1024 .f32 :=
  select (broadcastInDim S2x4x1024x1024 ![0, 1, 2, 3] bcast_S1x1x1024x1024_S2x4x1024x1024_0_1_2_3 (broadcastInDim S1x1x1024x1024 ![2, 3] bcast_S1024x1024_S1x1x1024x1024_2_3 mask))
    (mulf (Host.dotGeneral dot_S2x1024x4x64_S2x1024x4x64_S2x4x1024x1024_3_3_1_1_02_02 none q k)
      (broadcastInDim S2x4x1024x1024 ![] bcast_S_S2x4x1024x1024 (constant S_ .f32 0x3E000000#32)))
    (broadcastInDim S2x4x1024x1024 ![] bcast_S_S2x4x1024x1024 (id (constant S_ .f32 0xFF800000#32)))

/-- Each row's greatest score. -/
def peak (s : FVec F S2x4x1024x1024 .f32) : FVec F S2x4x1024 .f32 :=
  Host.reduce FloatOps.maximumf s (constant S_ .f32 0xFF800000#32) reducesTo_S2x4x1024x1024_S2x4x1024_d3 h_S_

/-- The exponentials of the scores below their row's greatest. -/
def expd (s : FVec F S2x4x1024x1024 .f32) : FVec F S2x4x1024x1024 .f32 :=
  Host.exp (subf s (broadcastInDim S2x4x1024x1024 ![0, 1, 2, 3] bcast_S2x4x1024x1_S2x4x1024x1024_0_1_2_3
    (broadcastInDim S2x4x1024x1 ![0, 1, 2] bcast_S2x4x1024_S2x4x1024x1_0_1_2 (peak s))))

/-- The weights. -/
def weights (e : FVec F S2x4x1024x1024 .f32) : FVec F S2x4x1024x1024 .f32 :=
  select (broadcastInDim S2x4x1024x1024 ![0, 1, 2, 3] bcast_S1x1x1024x1_S2x4x1024x1024_0_1_2_3 some_key)
    (Host.divf e (broadcastInDim S2x4x1024x1024 ![0, 1, 2, 3] bcast_S2x4x1024x1_S2x4x1024x1024_0_1_2_3
      (select (broadcastInDim S2x4x1024x1 ![0, 1, 2, 3] bcast_S1x1x1024x1_S2x4x1024x1_0_1_2_3 some_key)
        (broadcastInDim S2x4x1024x1 ![0, 1, 2] bcast_S2x4x1024_S2x4x1024x1_0_1_2
          (Host.reduceAdd e (constant S_ .f32 0x00000000#32) reducesTo_S2x4x1024x1024_S2x4x1024_d3 h_S_))
        (broadcastInDim S2x4x1024x1 ![] bcast_S_S2x4x1024x1 (id (constant S_ .f32 0x3F800000#32))))))
    (broadcastInDim S2x4x1024x1024 ![] bcast_S_S2x4x1024x1024 (id (constant S_ .f32 0x00000000#32)))

/-- The weighted values, head by head. -/
def ctx (v : FVec F S2x1024x4x64 .f32) (w : FVec F S2x4x1024x1024 .f32) : FVec F S2x4x64x1024 .f32 :=
  Host.dotGeneral dot_S2x1024x4x64_S2x4x1024x1024_S2x4x64x1024_1_3_3_2_02_01 none v w

/-- The result. -/
def final (o : FVec F S2x4x64x1024 .f32) (wo : FVec F S256x512 .f32) : FVec F S2x1024x512 .f32 :=
  Host.dotGeneral dot_S2x1024x256_S256x512_S2x1024x512_2_0_01_1_n_n none
    (shapeCast S2x1024x256 (transpose S2x1024x4x64 [0, 3, 1, 2] o transposes_S2x4x64x1024_S2x1024x4x64_0_3_1_2) shapeCasts_S2x1024x4x64_S2x1024x256) wo

/-- The reference's result of the whole arguments. -/
def out (x : FVec F S2x1024x512 .f32) (wq : FVec F S512x256 .f32) (k v : FVec F S2x1024x4x64 .f32) (wo : FVec F S256x512 .f32) : FVec F S2x1024x512 .f32 :=
  final (ctx (quant v) (weights (expd (scores (proj x wq) (quant k))))) wo

/-- What the reference's run leaves is that. -/
theorem res_eq (m : (ℓ : Loc nD τ sig) → Buf (Elt F) ℓ) (c : Dev nD) :
    Value.res_main_v45 m c = out (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

end Cert.ReferenceIdeal.Parts
-- ==== Proof.RefCells.lean ====
/-
# The reference's parts at an index

Each part of the reference, read at an index, at the ideal values.
-/
module

public import proofs.«01_k».proof.Proof.RefParts
public import proofs.«01_k».proof.Proof.Sums
public import Idealize.ShloMosaic.Lib.Pointwise
public import Idealize.ShloMosaic.Lib.Routing.OpsOrder

@[expose] public section

noncomputable section

namespace Cert.ReferenceIdeal.Parts

open Cert.ReferenceIdeal Cert.ReferenceIdeal.Gen Idealize.ShloMosaic Cert.Attention

set_option maxRecDepth 16384

/-- A quantised number is its code over 32. -/
theorem quant_apply (k : FVec Ideal S2x1024x4x64 .f32) (b : Fin 2) (g : Fin 1024) (h : Fin 4) (d : Fin 64) :
    quant k (ix4 b g h d) = (((level (k (ix4 b g h d)) : ℝ) / 32 : ℝ) : EReal) := by
  pointwise [quant]
  have h1 : (FloatOps.sitofp (F := Ideal) .f32 127#32 : EReal) = ((127 : ℝ) : EReal) := by
    show (((127#32 : BitVec 32).toInt : ℝ) : EReal) = _
    rw [show (127#32 : BitVec 32).toInt = 127 from by decide]; norm_num
  have h2 : (FloatOps.sitofp (F := Ideal) .f32 4294967169#32 : EReal) = ((-127 : ℝ) : EReal) := by
    show (((4294967169#32 : BitVec 32).toInt : ℝ) : EReal) = _
    rw [show (4294967169#32 : BitVec 32).toInt = -127 from by decide]; norm_num
  have h3 : Ideal.ofBits FTy.f32 1107296256#32 = ((32 : ℝ) : EReal) := bits_32
  rw [h1, h2, h3, level_clip, Ideal.div_coe (by norm_num), ← EReal.coe_mul, ← div_eq_mul_one_div]

/-- The block of a position. -/
theorem block64_apply (g : Fin 1024) : block64 (ix1 g) = BitVec.ofNat 32 (g.val / 64) := by
  pointwise [block64]
  revert g
  decide +kernel

theorem sle_word : ∀ a b : Fin 16, IntOp.cmpi .sle (BitVec.ofNat 32 a.val) (BitVec.ofNat 32 b.val) = if a.val ≤ b.val then 1#1 else 0#1 := by decide

/-- A position sees the keys of its own block and of those before. -/
theorem mask_apply (g j : Fin 1024) : mask (ix2 g j) = if j.val / 64 ≤ g.val / 64 then 1#1 else 0#1 := by
  pointwise [mask]
  rw [block64_apply, block64_apply]
  exact sle_word ⟨j.val / 64, by omega⟩ ⟨g.val / 64, by omega⟩

/-- Every position sees a key. -/
theorem some_key_apply (g : Fin 1024) : some_key (ix4 0 0 g 0) = 1#1 := by
  pointwise [some_key]
  rw [Routing.fold_ori]
  exact ⟨g, Finset.mem_univ _, by rw [mask_apply, if_pos le_rfl]⟩

/-- The projection. -/
theorem proj_apply (x : FVec Ideal S2x1024x512 .f32) (wq : FVec Ideal S512x256 .f32) (X : Fin 2 → Fin 1024 → Fin 512 → ℝ) (W : Fin 512 → Fin 256 → ℝ)
    (hx : ∀ b g k, x (ix3 b g k) = (X b g k : EReal)) (hw : ∀ k e, wq (ix2 k e) = (W k e : EReal)) (b : Fin 2) (g : Fin 1024) (h : Fin 4) (d : Fin 64) :
    proj x wq (ix4 b g h d) = ((prj (X b g) W (head h d) : ℝ) : EReal) := by
  pointwise [proj]
  simp only [hx, hw, ← EReal.coe_mul]
  rw [← coe_sum]; rfl

/-- The masked scores. -/
theorem scores_apply (q k : FVec Ideal S2x1024x4x64 .f32) (b : Fin 2) (h : Fin 4) (g j : Fin 1024) (Q K : Fin 64 → ℝ)
    (hq : ∀ d, q (ix4 b g h d) = (Q d : EReal)) (hk : ∀ d, k (ix4 b j h d) = ((K d / 32 : ℝ) : EReal)) :
    scores q k (ix4 b h g j) = if j.val / 64 ≤ g.val / 64 then ((score Q K : ℝ) : EReal) else ⊥ := by
  pointwise [scores]
  have h1 : (id (constant (F := Ideal) S_ FTy.f32 4286578688#32) ix0 : EReal) = ⊥ := bits_neg_inf
  have h3 : Ideal.ofBits FTy.f32 1040187392#32 = ((1 / 8 : ℝ) : EReal) := bits_8th
  have h2 : (∑ d, q (ix4 b g h d) * k (ix4 b j h d)) * Ideal.ofBits FTy.f32 1040187392#32 = ((score Q K : ℝ) : EReal) := by
    simp only [hq, hk, ← EReal.coe_mul]
    rw [← coe_sum, h3, ← EReal.coe_mul]
    refine congrArg _ ?_
    rw [score, Finset.sum_mul, Finset.sum_div]
    exact Finset.sum_congr rfl fun d _ => by ring
  rw [h1, h2, mask_apply]
  split <;> rfl

section Row
variable (s : FVec Ideal S2x4x1024x1024 .f32) (b : Fin 2) (h : Fin 4) (g : Fin 1024) (f : Fin 1024 → ℝ)
  (hs : ∀ j : Fin 1024, s (ix4 b h g j) = if j.val / 64 ≤ g.val / 64 then (f j : EReal) else ⊥)
include hs

/-- A row's greatest score is a real. -/
theorem peak_real : ∃ M : ℝ, peak s (ix3 b h g) = (M : EReal) := by
  have e : peak s (ix3 b h g) = Finset.fold max (⊥ : EReal) (fun x => s (ix4 b h g x)) Finset.univ := by
    pointwise [peak]
    exact congrArg (fun z => Finset.fold max z (fun x => s (ix4 b h g x)) Finset.univ) bits_neg_inf
  have ht : peak s (ix3 b h g) ≠ ⊤ := by
    rw [e]
    refine ((Finset.fold_max_lt _).mpr ⟨bot_lt_top, fun j _ => ?_⟩).ne
    rw [hs]
    split
    · exact EReal.coe_lt_top _
    · exact bot_lt_top
  have hb : peak s (ix3 b h g) ≠ ⊥ := by
    rw [e]
    refine ((Finset.lt_fold_max _).mpr (Or.inr ⟨g, Finset.mem_univ _, ?_⟩)).ne'
    rw [hs, if_pos le_rfl]
    exact EReal.bot_lt_coe _
  exact ⟨_, (EReal.coe_toReal ht hb).symm⟩

/-- A row's exponentials. -/
theorem expd_apply (M : ℝ) (hM : peak s (ix3 b h g) = (M : EReal)) (j : Fin 1024) :
    expd s (ix4 b h g j) = ((if j.val / 64 ≤ g.val / 64 then Real.exp (f j - M) else 0 : ℝ) : EReal) := by
  pointwise [expd]
  rw [hM, hs]
  split
  · rw [← EReal.coe_sub, Ideal.exp_coe]
  · rw [EReal.bot_sub, Ideal.exp_bot]; rfl

/-- A row's weights. -/
theorem weights_apply (M : ℝ) (hM : peak s (ix3 b h g) = (M : EReal)) (j : Fin 1024) :
    weights (expd s) (ix4 b h g j) = (((if j.val / 64 ≤ g.val / 64 then Real.exp (f j - M) else 0)
      / ∑ i : Fin 1024, (if i.val / 64 ≤ g.val / 64 then Real.exp (f i - M) else 0) : ℝ) : EReal) := by
  pointwise [weights]
  simp only [expd_apply s b h g f hs M hM]
  rw [some_key_apply, ← coe_sum]
  show Ideal.div _ ((∑ i : Fin 1024, (if i.val / 64 ≤ g.val / 64 then Real.exp (f i - M) else 0) : ℝ) : EReal) = _
  rw [Ideal.div_coe (attend_pos g (fun i => f i - M)).ne', ← EReal.coe_mul, ← div_eq_mul_one_div]

/-- A row's weighted values. -/
theorem ctx_apply (v : FVec Ideal S2x1024x4x64 .f32) (d : Fin 64) (W : Fin 1024 → ℝ) (hv : ∀ j, v (ix4 b j h d) = ((W j / 32 : ℝ) : EReal)) :
    ctx v (weights (expd s)) (ix4 b h d g) = ((attend g f W : ℝ) : EReal) := by
  obtain ⟨M, hM⟩ := peak_real s b h g f hs
  pointwise [ctx]
  simp only [weights_apply s b h g f hs M hM, hv, ← EReal.coe_mul]
  rw [← coe_sum]
  exact congrArg _ (softmax_shift (fun j : Fin 1024 => j.val / 64 ≤ g.val / 64) f W M)

end Row

/-- The last projection. -/
theorem final_apply (o : FVec Ideal S2x4x64x1024 .f32) (wo : FVec Ideal S256x512 .f32) (b : Fin 2) (g : Fin 1024) (n : Fin 512) :
    final o wo (ix3 b g n) = ∑ x : Fin 256, o (ix4 b ⟨x.val / 64, by omega⟩ ⟨x.val % 64, by omega⟩ g) * wo (ix2 x n) := by
  pointwise [final]

/-- The reference's result at an index. -/
theorem out_apply (x : FVec Ideal S2x1024x512 .f32) (wq : FVec Ideal S512x256 .f32) (k v : FVec Ideal S2x1024x4x64 .f32) (wo : FVec Ideal S256x512 .f32)
    (X : Fin 2 → Fin 1024 → Fin 512 → ℝ) (W : Fin 512 → Fin 256 → ℝ)
    (hx : ∀ b g k, x (ix3 b g k) = (X b g k : EReal)) (hw : ∀ k e, wq (ix2 k e) = (W k e : EReal)) (b : Fin 2) (g : Fin 1024) (n : Fin 512) :
    out x wq k v wo (ix3 b g n) = ∑ y : Fin 256, ((attend g
        (fun j => score (fun d => prj (X b g) W (head ⟨y.val / 64, by omega⟩ d)) (fun d => (level (k (ix4 b j ⟨y.val / 64, by omega⟩ d)) : ℝ)))
        (fun j => (level (v (ix4 b j ⟨y.val / 64, by omega⟩ ⟨y.val % 64, by omega⟩)) : ℝ)) : ℝ) : EReal) * wo (ix2 y n) := by
  unfold out
  rw [final_apply]
  refine Finset.sum_congr rfl fun y _ => congrArg (· * wo (ix2 y n)) ?_
  exact ctx_apply _ b _ g _ (fun j => scores_apply _ _ b _ g j _ _ (fun d => proj_apply x wq X W hx hw b g _ d) (fun d => quant_apply k b j _ d)) _ _ _
    (fun j => quant_apply v b j _ _)

end Cert.ReferenceIdeal.Parts
-- ==== Proof.Value.lean ====
/-
# The value of the kernel

On every device the stored result is that device's block of the reference's result.
-/
module

public import proofs.«01_k».proof.Proof.Host
public import proofs.«01_k».proof.Proof.Arrays
public import proofs.«01_k».proof.Proof.RefCells

@[expose] public section

noncomputable section

namespace Cert.KernelIdeal.Attn

open Cert.KernelIdeal Cert.KernelIdeal.Gen Cert.Attention

open Idealize.ShloMosaic
open Idealize.ShloMosaic.TcCoe

set_option maxRecDepth 16384

/-! ## Blocks of the whole arrays -/

/-- Row `r` of device `c`'s block of a three-axis array is row `256 c + r` of the array. -/
theorem block_rows {α : Type} {n : ℕ} (c : Fin 4) (v : (⟨3, ![2, 1024, n]⟩ : Shape).Idx → α) (h : Layout.Tiles ⟨3, ![2, 256, n]⟩ ⟨3, ![2, 1024, n]⟩ 1 4)
    (b : Fin 2) (r : Fin 256) (e : Fin n) : Layout.block ⟨3, ![2, 256, n]⟩ ⟨3, ![2, 1024, n]⟩ 1 4 c v h (ix3 b r e) = v (ix3 b (at4 c r) e) := by
  rw [Layout.block_apply]
  refine congrArg v (funext fun a => Fin.ext ?_)
  rw [Layout.Tiles.idx_val]
  fin_cases a <;> rfl

/-- The same of a four-axis array. -/
theorem block_keys {α : Type} {n k : ℕ} (c : Fin 4) (v : (⟨4, ![2, 1024, n, k]⟩ : Shape).Idx → α) (h : Layout.Tiles ⟨4, ![2, 256, n, k]⟩ ⟨4, ![2, 1024, n, k]⟩ 1 4)
    (b : Fin 2) (r : Fin 256) (e : Fin n) (d : Fin k) :
    Layout.block ⟨4, ![2, 256, n, k]⟩ ⟨4, ![2, 1024, n, k]⟩ 1 4 c v h (ix4 b r e d) = v (ix4 b (at4 c r) e d) := by
  rw [Layout.block_apply]
  refine congrArg v (funext fun a => Fin.ext ?_)
  rw [Layout.Tiles.idx_val]
  fin_cases a <;> rfl

/-! ## What the body loads -/

section Reads

variable {F : FTy → Type} [FloatOps F] [Named F]

theorem xOf_apply (i : Ins F) (b : Fin 2) (r : Fin 256) (k : Fin 512) : xOf i b (ix3 0 r k) = i.x (ix3 b r k) := by
  unfold xOf
  rw [View.readAt_apply]
  refine congrArg i.x (funext fun a => Fin.ext ?_)
  fin_cases a <;> simp

theorem wqOf_apply (i : Ins F) (k : Fin 512) (e : Fin 256) : wqOf i (ix2 k e) = i.wq (ix2 k e) := by
  unfold wqOf
  rw [View.readAt_apply]
  refine congrArg i.wq (funext fun a => Fin.ext ?_)
  fin_cases a <;> simp

theorem woOf_apply (i : Ins F) (k : Fin 256) (e : Fin 512) : woOf i (ix2 k e) = i.wo (ix2 k e) := by
  unfold woOf
  rw [View.readAt_apply]
  refine congrArg i.wo (funext fun a => Fin.ext ?_)
  fin_cases a <;> simp

variable (m : (ℓ : Loc nD τ sig) → Buf (Elt F) ℓ) (c : Dev nD)

theorem ownKey_apply (b : Fin 2) (h : Fin 4) (d : Fin 64) (j : Fin 256) :
    ownOf 0 (kvOf m c 0) b h (ix4 0 0 d j) = codes (m ((c : Thread nD τ).loc main_arg2)) (ix4 b h d j) := by
  rw [ownOf_apply, ← V_keys, ← blk_keys]; rfl

theorem ownVal_apply (b : Fin 2) (h : Fin 4) (d : Fin 64) (j : Fin 256) :
    ownOf 1 (kvOf m c 1) b h (ix4 0 0 d j) = codes (m ((c : Thread nD τ).loc main_arg3)) (ix4 b h d j) := by
  rw [ownOf_apply, ← V_vals, ← blk_vals]; rfl

theorem sentKey_apply (s : Dev nD) (b : Fin 2) (h : Fin 4) (d : Fin 64) (j : Fin 256) :
    sent (kvOf m) 0 s b h (ix5 0 0 0 d j) = codes (m ((s : Thread nD τ).loc main_arg2)) (ix4 b h d j) := by
  rw [← V_keys, ← blk_keys]; rfl

theorem sentVal_apply (s : Dev nD) (b : Fin 2) (h : Fin 4) (d : Fin 64) (j : Fin 256) :
    sent (kvOf m) 1 s b h (ix5 0 0 0 d j) = codes (m ((s : Thread nD τ).loc main_arg3)) (ix4 b h d j) := by
  rw [← V_vals, ← blk_vals]; rfl

end Reads

/-! ## The result -/

section Result

variable (m : (ℓ : Loc nD τ sig) → Buf (Elt Ideal) ℓ)
variable (x : FVec Ideal ⟨3, ![2, 1024, 512]⟩ .f32) (wq : FVec Ideal ⟨2, ![512, 256]⟩ .f32) (k v : FVec Ideal ⟨4, ![2, 1024, 4, 64]⟩ .f32)
  (wo : FVec Ideal ⟨2, ![256, 512]⟩ .f32)

/-- Every device holds its blocks of the whole arrays. -/
structure Blocks : Prop where
  x (c : Fin 4) : m ((c : Thread nD τ).loc main_arg0) = Layout.block ⟨3, ![2, 256, 512]⟩ ⟨3, ![2, 1024, 512]⟩ 1 4 c x
  wq (c : Fin 4) : m ((c : Thread nD τ).loc main_arg1) = wq
  k (c : Fin 4) : m ((c : Thread nD τ).loc main_arg2) = Layout.block ⟨4, ![2, 256, 4, 64]⟩ ⟨4, ![2, 1024, 4, 64]⟩ 1 4 c k
  v (c : Fin 4) : m ((c : Thread nD τ).loc main_arg3) = Layout.block ⟨4, ![2, 256, 4, 64]⟩ ⟨4, ![2, 1024, 4, 64]⟩ 1 4 c v
  wo (c : Fin 4) : m ((c : Thread nD τ).loc main_arg4) = wo

variable {m x wq k v wo} (B : Blocks m x wq k v wo) (X : Fin 2 → Fin 1024 → Fin 512 → ℝ) (W : Fin 512 → Fin 256 → ℝ)
  (hx : ∀ b g k, x (ix3 b g k) = (X b g k : EReal)) (hw : ∀ k e, wq (ix2 k e) = (W k e : EReal)) (c : Fin 4)

include B

theorem x_read (b : Fin 2) (r : Fin 256) (e : Fin 512) : xOf (insOf m c) b (ix3 0 r e) = x (ix3 b (at4 c r) e) := by
  rw [xOf_apply]
  show iblk m c 0 t0_0 (ix3 b r e) = _
  rw [blk_x, V_main_arg0, B.x, block_rows]

theorem wq_read (e : Fin 512) (g : Fin 256) : wqOf (insOf m c) (ix2 e g) = wq (ix2 e g) := by
  rw [wqOf_apply]
  show iblk m c 1 t0_0 (ix2 e g) = _
  rw [blk_wq, V_wq, B.wq]; rfl

theorem wo_read (e : Fin 256) (g : Fin 512) : woOf (insOf m c) (ix2 e g) = wo (ix2 e g) := by
  rw [woOf_apply]
  show iblk m c 4 t0_0 (ix2 e g) = _
  rw [blk_wo, V_wo, B.wo]; rfl

theorem key_code (s : Fin 4) (b : Fin 2) (h : Fin 4) (d : Fin 64) (j : Fin 256) :
    cod (codes (F := Ideal) (m ((s : Thread nD τ).loc main_arg2)) (ix4 b h d j)) = (level (k (ix4 b (at4 s j) h d)) : ℝ) := by
  rw [codes_apply, B.k, block_keys]

theorem val_code (s : Fin 4) (b : Fin 2) (h : Fin 4) (d : Fin 64) (j : Fin 256) :
    cod (codes (F := Ideal) (m ((s : Thread nD τ).loc main_arg3)) (ix4 b h d j)) = (level (v (ix4 b (at4 s j) h d)) : ℝ) := by
  rw [codes_apply, B.v, block_keys]

include hx hw

/-- One head of one row: the normalised sum that the kernel forms is the reference's attention. -/
theorem head_value (b : Fin 2) (r : Fin 256) (h : Fin 4) (d : Fin 64) :
    aOf (vis c) (qOf (k0_pay1 (xOf (insOf m c) b) (wqOf (insOf m c))) h) (ownOf 0 (kvOf m c 0) b h) (ownOf 1 (kvOf m c 1) b h)
        (fun s => sent (kvOf m) 0 s b h) (fun s => sent (kvOf m) 1 s b h) (ix2 r d)
      * Ideal.div (Ideal.ofBits .f32 0x3D000000#32)
        (lOf (vis c) (qOf (k0_pay1 (xOf (insOf m c) b) (wqOf (insOf m c))) h) (ownOf 0 (kvOf m c 0) b h) (fun s => sent (kvOf m) 0 s b h) (ix2 r 0))
      = ((attend (at4 c r) (fun j => score (fun d => prj (X b (at4 c r)) W (head h d)) (fun d => (level (k (ix4 b j h d)) : ℝ)))
          (fun j => (level (v (ix4 b j h d)) : ℝ)) : ℝ) : EReal) := by
  refine (headOf_apply c _ r (fun d => prj (X b (at4 c r)) W (head h d) / 256) (fun d => ?_) _ _ _ _ (fun j d => (level (k (ix4 b j h d)) : ℝ))
    (fun j d => (level (v (ix4 b j h d)) : ℝ)) (fun d j => ?_) (fun s d j => ?_) (fun d j => ?_) (fun s d j => ?_) d).trans (congrArg _ ?_)
  · rw [qOf_apply]
    exact pay1_apply _ _ r _ (X b (at4 c r)) W (fun e => by rw [x_read B, hx]) (fun e g => by rw [wq_read B, hw])
  · rw [ownKey_apply]; exact key_code B c b h d j
  · rw [sentKey_apply]; exact key_code B s b h d j
  · rw [ownVal_apply]; exact val_code B c b h d j
  · rw [sentVal_apply]; exact val_code B s b h d j
  · refine congrArg (fun f => attend (at4 c r) f _) (funext fun g => ?_)
    rw [score, Finset.sum_div]
    exact Finset.sum_congr rfl fun e _ => by ring

/-- One entry of the result. -/
theorem row_value (b : Fin 2) (r : Fin 256) (n : Fin 512) :
    rowOf c (insOf m c) (kvOf m c) (sent (kvOf m)) b (ix3 0 r n) = Cert.ReferenceIdeal.Parts.out x wq k v wo (ix3 b (at4 c r) n) := by
  rw [Cert.ReferenceIdeal.Parts.out_apply x wq k v wo X W hx hw]
  have hh := head_value B X W hx hw c b r
  refine (pay190_apply _ _ _ _ _ _ _ _ _ r n (fun h d => attend (at4 c r)
    (fun j => score (fun d => prj (X b (at4 c r)) W (head h d)) (fun d => (level (k (ix4 b j h d)) : ℝ))) (fun j => (level (v (ix4 b j h d)) : ℝ))) (hh 0) (hh 1) (hh 2) (hh 3)).trans (Finset.sum_congr rfl fun y _ => ?_)
  rw [wo_read B]

/-- The result that device `c` stores is its block of the reference's result. -/
theorem result_value : resOf m c = Layout.block ⟨3, ![2, 256, 512]⟩ ⟨3, ![2, 1024, 512]⟩ 1 4 c (Cert.ReferenceIdeal.Parts.out x wq k v wo) := by
  funext p
  obtain ⟨b, r, n, rfl⟩ : ∃ b r n, p = ix3 b r n := ⟨p 0, p 1, p 2, (ValueIdx.eq_ix3 p).trans (ix3_eq_valueIdx ..).symm⟩
  rw [block_rows, ← row_value B X W hx hw c b r n]
  fin_cases b <;> rfl

end Result

end Cert.KernelIdeal.Attn
-- ==== Proof.Finite.lean ====
/-
# The precondition

Where the precondition holds of a device's arrays, its activations and the query projection are reals.
-/
module

public import proofs.«01_k».proof.Proof.Gen.Pre_tame_KernelIdeal
public import proofs.«01_k».proof.Proof.Sums
public import Idealize.ShloMosaic.Lib.ReduceAll
public import Idealize.ShloMosaic.Lib.Pointwise

@[expose] public section

noncomputable section

namespace Cert.Attention

open Idealize.ShloMosaic

/-- An extended real whose absolute value compares below the bits of plus infinity is a real. -/
theorem real_of_abs (z : EReal) (h : FloatOps.cmpf (F := Ideal) (φ := .f32) .olt (FloatOps.absf (F := Ideal) (φ := .f32) z) (Ideal.ofBits .f32 0x7F800000#32) = 1#1) :
    ∃ r : ℝ, z = (r : EReal) := by
  rw [bits_inf] at h
  have h' : max z (-z) < ⊤ := by
    by_contra hn
    have : FloatOps.cmpf (F := Ideal) (φ := .f32) .olt (FloatOps.absf (F := Ideal) (φ := .f32) z) (⊤ : EReal) = 0#1 :=
      congrArg BitVec.ofBool (decide_eq_false hn)
    rw [this] at h
    exact absurd h (by decide)
  refine ⟨z.toReal, (EReal.coe_toReal (fun e => ?_) (fun e => ?_)).symm⟩
  · rw [e] at h'; simp at h'
  · rw [e] at h'; simp at h'

open Cert.Pre_tame_KernelIdeal Cert.Pre_tame_KernelIdeal.Gen

variable (a0 : FVec Ideal S2x256x512 .f32) (a1 : FVec Ideal S512x256 .f32) (a2 a3 : FVec Ideal S2x256x4x64 .f32) (a4 : FVec Ideal S256x512 .f32)

/-- Both halves of the precondition hold. -/
theorem tame_parts (h : Cert.Pre_tame_KernelIdeal.fn (F := Ideal) a0 a1 a2 a3 a4 = fun _ => 1#1) :
    (∀ i, ∃ r : ℝ, a0 i = (r : EReal)) ∧ ∀ i, ∃ r : ℝ, a1 i = (r : EReal) := by
  have h0 := congrFun h ix0
  unfold Cert.Pre_tame_KernelIdeal.fn at h0
  have hand : ∀ a b : BitVec 1, a &&& b = 1#1 → a = 1#1 ∧ b = 1#1 := by decide
  obtain ⟨ha, hb⟩ := hand _ _ h0
  haveI : Subsingleton S_.Idx := ⟨fun _ _ => funext fun i => i.elim0⟩
  exact ⟨fun i => real_of_abs _ (Host.reduce_andi_all _ _ _ _ _ ha i), fun i => real_of_abs _ (Host.reduce_andi_all _ _ _ _ _ hb i)⟩

end Cert.Attention
-- ==== Proof.Algebraic.lean ====
/-
# The value claim

From whole arrays whose blocks the devices hold, the kernel's result on each device is that device's block of
the reference's result.
-/
module

public import proofs.«01_k».proof.Defs
public import proofs.«01_k».proof.Proof.Gen.Kernel
public import proofs.«01_k».proof.Proof.Frames
public import proofs.«01_k».proof.Proof.Value
public import proofs.«01_k».proof.Proof.Finite

@[expose] public section

noncomputable section

namespace Cert.KernelIdeal.Attn

open Idealize.ShloMosaic Idealize.SL.Sem Cert.KernelIdeal Cert.Attention

/-- Where the precondition holds on every device, the whole activations and the query projection are reals. -/
theorem reals {m : (ℓ : Loc nD τ sig) → Buf (Elt Ideal) ℓ} {x : FVec Ideal ⟨3, ![2, 1024, 512]⟩ .f32} {wq : FVec Ideal ⟨2, ![512, 256]⟩ .f32}
    {k v : FVec Ideal ⟨4, ![2, 1024, 4, 64]⟩ .f32} {wo : FVec Ideal ⟨2, ![256, 512]⟩ .f32} (B : Blocks m x wq k v wo)
    (h : Cert.Pre_KernelIdeal_tame_KernelIdeal m) :
    (∃ X : Fin 2 → Fin 1024 → Fin 512 → ℝ, ∀ b g e, x (ix3 b g e) = (X b g e : EReal))
      ∧ ∃ W : Fin 512 → Fin 256 → ℝ, ∀ e n, wq (ix2 e n) = (W e n : EReal) := by
  have hx (b : Fin 2) (g : Fin 1024) (e : Fin 512) : ∃ r : ℝ, x (ix3 b g e) = (r : EReal) := by
    obtain ⟨r, hr⟩ := (tame_parts _ _ _ _ _ (h (⟨g.val / 256, by omega⟩ : Fin 4))).1 (ix3 b ⟨g.val % 256, by omega⟩ e)
    refine ⟨r, ?_⟩
    rw [B.x, block_rows] at hr
    rw [← hr]
    exact congrArg (fun i => x (ix3 b i e)) (Fin.ext (by simp only [at4]; omega))
  have hw (e : Fin 512) (n : Fin 256) : ∃ r : ℝ, wq (ix2 e n) = (r : EReal) := by
    obtain ⟨r, hr⟩ := (tame_parts _ _ _ _ _ (h 0)).2 (ix2 e n)
    rw [B.wq] at hr
    exact ⟨r, hr⟩
  exact ⟨⟨fun b g e => (hx b g e).choose, fun b g e => (hx b g e).choose_spec⟩, fun e n => (hw e n).choose, fun e n => (hw e n).choose_spec⟩

/-- Every device's result is its block of the reference's result, and both leave their arguments as they were. -/
theorem value_claim : Cert.algebraic_KernelIdeal_ReferenceIdeal_pre_tame_KernelIdeal := by
  intro m ρ m' ρ' hpre hin
  have B : Blocks m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    ⟨fun c => (hin c).1, fun c => (hin c).2.1, fun c => (hin c).2.2.1, fun c => (hin c).2.2.2.1, fun c => (hin c).2.2.2.2⟩
  obtain ⟨⟨X, hX⟩, W, hW⟩ := reals B hpre
  refine ⟨Cert.ReferenceIdeal.Value.res_main_v45 m' 0, ?_, ?_⟩
  · refine (θ_run defs _ _).mono (fun r h c => ⟨?_, args_same m r.2.mem c (h.1 c)⟩) (run_bufs (F := Ideal) m ρ)
    rw [Cert.ReferenceIdeal.Parts.res_eq]
    exact (h.1 c _ (hbm_mem _ rfl)).trans ((W10_res m c).trans ((resArr_eq m c).trans (result_value B X W hX hW c)))
  · exact (θ_run Cert.ReferenceIdeal.defs _ _).mono (fun r h => h 0) (Cert.ReferenceIdeal.Value.run (F := Ideal) m' ρ')

end Cert.KernelIdeal.Attn

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_tame_KernelIdeal
public import proofs.«01_k».proof.Proof.Gen.Pre_tame_ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem

/-- The reference runs to its end and leaves its arguments as they were. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The mask is named: at the ideal instance it reads as minus infinity. -/
theorem mask_named : Cert.preserves_Kernel_KernelIdeal :=
  IdealRules.named_const.statement Cert.KernelIdeal.κ "mask" .f32 0xCE6E6B28#32 ⊥ rfl

/-- Everything the certificate claims. -/
theorem claim : Cert.Claim :=
  ⟨Cert.Kernel.Gen.facts, Cert.KernelIdeal.Gen.facts, Cert.ReferenceIdeal.Gen.facts, Cert.Pre_tame_KernelIdeal.Gen.facts, Cert.Pre_tame_ReferenceIdeal.Gen.facts,
    Cert.KernelIdeal.Attn.frame_kernel, Cert.KernelIdeal.Attn.frame_kernelIdeal, fun m ρ _ => Cert.KernelIdeal.Attn.frame_kernelIdeal m ρ trivial,
    frame_reference, fun m ρ _ => frame_reference m ρ trivial, mask_named, Cert.KernelIdeal.Attn.value_claim⟩

end Cert.Proof

end
